-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  IdealRules.named_const.Statement Cert.Kernel2Ideal.κ "log2e" .f32 0x3FB8AA3B#32 (((Real.log 2)⁻¹ : ℝ) : EReal)
  ∧ IdealRules.named_const.Statement Cert.Kernel2Ideal.κ "mask" .f32 0xF149F2CA#32 ⊥

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v52) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S16384x5120 : Shape := ⟨2, ![16384, 5120]⟩
abbrev S2x8x8x64x512 : Shape := ⟨5, ![2, 8, 8, 64, 512]⟩
abbrev S16384x512 : Shape := ⟨2, ![16384, 512]⟩
abbrev S4096x128 : Shape := ⟨2, ![4096, 128]⟩
abbrev S1x2x8x64x512 : Shape := ⟨5, ![1, 2, 8, 64, 512]⟩
abbrev S64x128 : Shape := ⟨2, ![64, 128]⟩
abbrev S256x128 : Shape := ⟨2, ![256, 128]⟩
abbrev S640x128 : Shape := ⟨2, ![640, 128]⟩
abbrev S640x256 : Shape := ⟨2, ![640, 256]⟩
abbrev S64x256 : Shape := ⟨2, ![64, 256]⟩
abbrev S1x1x1x64x256 : Shape := ⟨5, ![1, 1, 1, 64, 256]⟩
abbrev S128x128 : Shape := ⟨2, ![128, 128]⟩
abbrev S128x256 : Shape := ⟨2, ![128, 256]⟩
abbrev S768x128 : Shape := ⟨2, ![768, 128]⟩
abbrev S768x256 : Shape := ⟨2, ![768, 256]⟩
abbrev S256x256 : Shape := ⟨2, ![256, 256]⟩
abbrev S64 : Shape := ⟨1, ![64]⟩
abbrev S64x1 : Shape := ⟨2, ![64, 1]⟩
abbrev S512x128 : Shape := ⟨2, ![512, 128]⟩
abbrev S512x256 : Shape := ⟨2, ![512, 256]⟩

abbrev nBuf : Space → Nat
  | .hbm => 3
  | .vmem => 12
  | .smem => 0
  | _ => 0

abbrev bufTy : (tb : Table) → Fin (tcTables nBuf tb) → BufTy
  | .hbm, ⟨0, _⟩ => ⟨S16384x5120, .bf16⟩
  | .hbm, ⟨1, _⟩ => ⟨S2x8x8x64x512, .f32⟩
  | .hbm, ⟨2, _⟩ => ⟨S16384x512, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S1x2x8x64x512, .f32⟩
  | .local _ .vmem, ⟨9, _⟩ => ⟨S1x2x8x64x512, .f32⟩
  | .local _ .vmem, ⟨10, _⟩ => ⟨S4096x128, .bf16⟩
  | .local _ .vmem, ⟨11, _⟩ => ⟨S4096x128, .bf16⟩
  | _, _ => ⟨S16384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x8x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "q_scale" => some (((1 / 8) * (Real.log 2)⁻¹ : ℝ) : EReal)
  | _ => none
-- ==== ReferenceIdeal.lean ====
abbrev S16384x5120 : Shape := ⟨2, ![16384, 5120]⟩
abbrev S2x8x8x64x512 : Shape := ⟨5, ![2, 8, 8, 64, 512]⟩
abbrev S64x8 : Shape := ⟨2, ![64, 8]⟩
abbrev S64 : Shape := ⟨1, ![64]⟩
abbrev S4x64x64x5120 : Shape := ⟨4, ![4, 64, 64, 5120]⟩
abbrev S4x64x64x512 : Shape := ⟨4, ![4, 64, 64, 512]⟩
abbrev S4x64x64x8x64 : Shape := ⟨5, ![4, 64, 64, 8, 64]⟩
abbrev S_ : Shape := ⟨0, ![]⟩
abbrev S64x8x1 : Shape := ⟨3, ![64, 8, 1]⟩
abbrev S4x64x8x64x8x64 : Shape := ⟨6, ![4, 64, 8, 64, 8, 64]⟩
abbrev S4x64x512x8x64 : Shape := ⟨5, ![4, 64, 512, 8, 64]⟩
abbrev S1x8x8x64x512 : Shape := ⟨5, ![1, 8, 8, 64, 512]⟩
abbrev S8x8x64x512 : Shape := ⟨4, ![8, 8, 64, 512]⟩
abbrev S64x1 : Shape := ⟨2, ![64, 1]⟩
abbrev S8x64x64x512 : Shape := ⟨4, ![8, 64, 64, 512]⟩
abbrev S4x64x8x64x512 : Shape := ⟨5, ![4, 64, 8, 64, 512]⟩
abbrev S64x8x64x512 : Shape := ⟨4, ![64, 8, 64, 512]⟩
abbrev S1x64x8x64x512 : Shape := ⟨5, ![1, 64, 8, 64, 512]⟩
abbrev S4x64x8x64 : Shape := ⟨4, ![4, 64, 8, 64]⟩
abbrev S4x64x8x64x1 : Shape := ⟨5, ![4, 64, 8, 64, 1]⟩
abbrev S4x64x8x64x64 : Shape := ⟨5, ![4, 64, 8, 64, 64]⟩
abbrev S16384x512 : Shape := ⟨2, ![16384, 512]⟩

abbrev nBuf : Space → Nat
  | .hbm => 79
  | .vmem => 0
  | .smem => 0
  | _ => 0

abbrev bufTy : (tb : Table) → Fin (tcTables nBuf tb) → BufTy
  | .hbm, ⟨0, _⟩ => ⟨S16384x5120, .bf16⟩
  | .hbm, ⟨1, _⟩ => ⟨S2x8x8x64x512, .f32⟩
  | .hbm, ⟨2, _⟩ => ⟨S64x8, .i32⟩
  | .hbm, ⟨3, _⟩ => ⟨S64x8, .i1⟩
  | .hbm, ⟨4, _⟩ => ⟨S64x8, .i1⟩
  | .hbm, ⟨5, _⟩ => ⟨S64, .i32⟩
  | .hbm, ⟨6, _⟩ => ⟨S64, .i1⟩
  | .hbm, ⟨7, _⟩ => ⟨S16384x5120, .f32⟩
  | .hbm, ⟨8, _⟩ => ⟨S4x64x64x5120, .f32⟩
  | .hbm, ⟨9, _⟩ => ⟨S4x64x64x512, .f32⟩
  | .hbm, ⟨10, _⟩ => ⟨S4x64x64x8x64, .f32⟩
  | .hbm, ⟨11, _⟩ => ⟨S4x64x64x512, .f32⟩
  | .hbm, ⟨12, _⟩ => ⟨S4x64x64x8x64, .f32⟩
  | .hbm, ⟨13, _⟩ => ⟨S4x64x64x512, .f32⟩
  | .hbm, ⟨14, _⟩ => ⟨S4x64x64x8x64, .f32⟩
  | .hbm, ⟨15, _⟩ => ⟨S4x64x64x512, .f32⟩
  | .hbm, ⟨16, _⟩ => ⟨S4x64x64x8x64, .f32⟩
  | .hbm, ⟨17, _⟩ => ⟨S_, .i32⟩
  | .hbm, ⟨18, _⟩ => ⟨S64x8, .i32⟩
  | .hbm, ⟨19, _⟩ => ⟨S64x8, .i32⟩
  | .hbm, ⟨20, _⟩ => ⟨S64x8, .i32⟩
  | .hbm, ⟨21, _⟩ => ⟨S64x8x1, .i32⟩
  | .hbm, ⟨22, _⟩ => ⟨S4x64x8x64x8x64, .f32⟩
  | .hbm, ⟨23, _⟩ => ⟨S4x64x512x8x64, .f32⟩
  | .hbm, ⟨24, _⟩ => ⟨S_, .i32⟩
  | .hbm, ⟨25, _⟩ => ⟨S64x8, .i32⟩
  | .hbm, ⟨26, _⟩ => ⟨S64x8, .i32⟩
  | .hbm, ⟨27, _⟩ => ⟨S64x8, .i32⟩
  | .hbm, ⟨28, _⟩ => ⟨S64x8x1, .i32⟩
  | .hbm, ⟨29, _⟩ => ⟨S4x64x8x64x8x64, .f32⟩
  | .hbm, ⟨30, _⟩ => ⟨S4x64x512x8x64, .f32⟩
  | .hbm, ⟨31, _⟩ => ⟨S1x8x8x64x512, .f32⟩
  | .hbm, ⟨32, _⟩ => ⟨S8x8x64x512, .f32⟩
  | .hbm, ⟨33, _⟩ => ⟨S_, .i32⟩
  | .hbm, ⟨34, _⟩ => ⟨S64, .i32⟩
  | .hbm, ⟨35, _⟩ => ⟨S64, .i32⟩
  | .hbm, ⟨36, _⟩ => ⟨S64, .i32⟩
  | .hbm, ⟨37, _⟩ => ⟨S64x1, .i32⟩
  | .hbm, ⟨38, _⟩ => ⟨S8x64x64x512, .f32⟩
  | .hbm, ⟨39, _⟩ => ⟨S_, .f32⟩
  | .hbm, ⟨40, _⟩ => ⟨S_, .f32⟩
  | .hbm, ⟨41, _⟩ => ⟨S8x64x64x512, .f32⟩
  | .hbm, ⟨42, _⟩ => ⟨S8x64x64x512, .f32⟩
  | .hbm, ⟨43, _⟩ => ⟨S_, .f32⟩
  | .hbm, ⟨44, _⟩ => ⟨S4x64x64x8x64, .f32⟩
  | .hbm, ⟨45, _⟩ => ⟨S4x64x64x8x64, .f32⟩
  | .hbm, ⟨46, _⟩ => ⟨S4x64x8x64x512, .f32⟩
  | .hbm, ⟨47, _⟩ => ⟨S64x8x64x512, .f32⟩
  | .hbm, ⟨48, _⟩ => ⟨S1x64x8x64x512, .f32⟩
  | .hbm, ⟨49, _⟩ => ⟨S4x64x8x64x512, .f32⟩
  | .hbm, ⟨50, _⟩ => ⟨S4x64x8x64x512, .f32⟩
  | .hbm, ⟨51, _⟩ => ⟨S_, .f32⟩
  | .hbm, ⟨52, _⟩ => ⟨S4x64x8x64, .f32⟩
  | .hbm, ⟨53, _⟩ => ⟨S4x64x8x64x1, .f32⟩
  | .hbm, ⟨54, _⟩ => ⟨S4x64x8x64x512, .f32⟩
  | .hbm, ⟨55, _⟩ => ⟨S4x64x8x64x512, .f32⟩
  | .hbm, ⟨56, _⟩ => ⟨S4x64x8x64x512, .f32⟩
  | .hbm, ⟨57, _⟩ => ⟨S_, .f32⟩
  | .hbm, ⟨58, _⟩ => ⟨S4x64x8x64, .f32⟩
  | .hbm, ⟨59, _⟩ => ⟨S4x64x8x64x1, .f32⟩
  | .hbm, ⟨60, _⟩ => ⟨S_, .f32⟩
  | .hbm, ⟨61, _⟩ => ⟨S4x64x8x64x1, .f32⟩
  | .hbm, ⟨62, _⟩ => ⟨S4x64x8x64x1, .f32⟩
  | .hbm, ⟨63, _⟩ => ⟨S4x64x8x64x512, .f32⟩
  | .hbm, ⟨64, _⟩ => ⟨S4x64x8x64x512, .f32⟩
  | .hbm, ⟨65, _⟩ => ⟨S4x64x8x64x64, .f32⟩
  | .hbm, ⟨66, _⟩ => ⟨S4x64x64x8x64, .f32⟩
  | .hbm, ⟨67, _⟩ => ⟨S4x64x64x8x64, .f32⟩
  | .hbm, ⟨68, _⟩ => ⟨S4x64x64x8x64, .f32⟩
  | .hbm, ⟨69, _⟩ => ⟨S_, .f32⟩
  | .hbm, ⟨70, _⟩ => ⟨S4x64x64x8x64, .f32⟩
  | .hbm, ⟨71, _⟩ => ⟨S4x64x64x8x64, .f32⟩
  | .hbm, ⟨72, _⟩ => ⟨S_, .f32⟩
  | .hbm, ⟨73, _⟩ => ⟨S4x64x64x8x64, .f32⟩
  | .hbm, ⟨74, _⟩ => ⟨S4x64x64x8x64, .f32⟩
  | .hbm, ⟨75, _⟩ => ⟨S4x64x64x8x64, .f32⟩
  | .hbm, ⟨76, _⟩ => ⟨S4x64x64x8x64, .f32⟩
  | .hbm, ⟨77, _⟩ => ⟨S16384x512, .f32⟩
  | .hbm, ⟨78, _⟩ => ⟨S16384x512, .bf16⟩
  | _, _ => ⟨S16384x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_9 : Ref sig .tc := ⟨.hbm, 57, rfl⟩
abbrev main_v44 : Ref sig .tc := ⟨.hbm, 58, rfl⟩
abbrev main_v45 : Ref sig .tc := ⟨.hbm, 59, rfl⟩
abbrev main_cst_10 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Kernel2.lean ====
abbrev S2x8x15x31 : Shape := ⟨4, ![2, 8, 15, 31]⟩
abbrev S_ : Shape := ⟨0, ![]⟩
abbrev S2x8x16x128 : Shape := ⟨4, ![2, 8, 16, 128]⟩
abbrev S2x8x8x64x512 : Shape := ⟨5, ![2, 8, 8, 64, 512]⟩
abbrev S1x1x16x128 : Shape := ⟨4, ![1, 1, 16, 128]⟩
abbrev S1x1x8x64x512 : Shape := ⟨5, ![1, 1, 8, 64, 512]⟩
abbrev S64x128 : Shape := ⟨2, ![64, 128]⟩
abbrev S1x128 : Shape := ⟨2, ![1, 128]⟩
abbrev S1x1x1x128 : Shape := ⟨4, ![1, 1, 1, 128]⟩
abbrev S1x1x1x64x128 : Shape := ⟨5, ![1, 1, 1, 64, 128]⟩

abbrev nBuf : Space → Nat
  | .hbm => 5
  | .vmem => 4
  | .smem => 0
  | _ => 0

abbrev bufTy : (tb : Table) → Fin (tcTables nBuf tb) → BufTy
  | .hbm, ⟨0, _⟩ => ⟨S2x8x15x31, .f32⟩
  | .hbm, ⟨1, _⟩ => ⟨S_, .i32⟩
  | .hbm, ⟨2, _⟩ => ⟨S_, .f32⟩
  | .hbm, ⟨3, _⟩ => ⟨S2x8x16x128, .f32⟩
  | .hbm, ⟨4, _⟩ => ⟨S2x8x8x64x512, .f32⟩
  | .local _ .vmem, ⟨0, _⟩ => ⟨S1x1x16x128, .f32⟩
  | .local _ .vmem, ⟨1, _⟩ => ⟨S1x1x16x128, .f32⟩
  | .local _ .vmem, ⟨2, _⟩ => ⟨S1x1x8x64x512, .f32⟩
  | .local _ .vmem, ⟨3, _⟩ => ⟨S1x1x8x64x512, .f32⟩
  | _, _ => ⟨S2x8x15x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Kernel2Ideal.lean ====
variable {F : FTy → Type} [FloatOps F] [Named F]
def κ : String → Option EReal := fun
  | "log2e" => some (((Real.log 2)⁻¹ : ℝ) : EReal)
  | "mask" => some ⊥
  | _ => none
-- ==== Reference2Ideal.lean ====
abbrev S2x8x15x31 : Shape := ⟨4, ![2, 8, 15, 31]⟩
abbrev S8x8 : Shape := ⟨2, ![8, 8]⟩
abbrev S64x64 : Shape := ⟨2, ![64, 64]⟩
abbrev S_ : Shape := ⟨0, ![]⟩
abbrev S8x8x1 : Shape := ⟨3, ![8, 8, 1]⟩
abbrev S2x8x8x8x31 : Shape := ⟨5, ![2, 8, 8, 8, 31]⟩
abbrev S64x64x1 : Shape := ⟨3, ![64, 64, 1]⟩
abbrev S2x8x8x8x64x64 : Shape := ⟨6, ![2, 8, 8, 8, 64, 64]⟩
abbrev S2x8x8x64x8x64 : Shape := ⟨6, ![2, 8, 8, 64, 8, 64]⟩
abbrev S2x8x8x64x512 : Shape := ⟨5, ![2, 8, 8, 64, 512]⟩

abbrev nBuf : Space → Nat
  | .hbm => 29
  | .vmem => 0
  | .smem => 0
  | _ => 0

abbrev bufTy : (tb : Table) → Fin (tcTables nBuf tb) → BufTy
  | .hbm, ⟨0, _⟩ => ⟨S2x8x15x31, .f32⟩
  | .hbm, ⟨1, _⟩ => ⟨S8x8, .i32⟩
  | .hbm, ⟨2, _⟩ => ⟨S8x8, .i1⟩
  | .hbm, ⟨3, _⟩ => ⟨S64x64, .i32⟩
  | .hbm, ⟨4, _⟩ => ⟨S64x64, .i1⟩
  | .hbm, ⟨5, _⟩ => ⟨S64x64, .i1⟩
  | .hbm, ⟨6, _⟩ => ⟨S_, .i32⟩
  | .hbm, ⟨7, _⟩ => ⟨S8x8, .i32⟩
  | .hbm, ⟨8, _⟩ => ⟨S8x8, .i32⟩
  | .hbm, ⟨9, _⟩ => ⟨S8x8, .i32⟩
  | .hbm, ⟨10, _⟩ => ⟨S8x8x1, .i32⟩
  | .hbm, ⟨11, _⟩ => ⟨S2x8x8x8x31, .f32⟩
  | .hbm, ⟨12, _⟩ => ⟨S_, .i32⟩
  | .hbm, ⟨13, _⟩ => ⟨S64x64, .i32⟩
  | .hbm, ⟨14, _⟩ => ⟨S64x64, .i32⟩
  | .hbm, ⟨15, _⟩ => ⟨S64x64, .i32⟩
  | .hbm, ⟨16, _⟩ => ⟨S64x64x1, .i32⟩
  | .hbm, ⟨17, _⟩ => ⟨S2x8x8x8x64x64, .f32⟩
  | .hbm, ⟨18, _⟩ => ⟨S_, .f32⟩
  | .hbm, ⟨19, _⟩ => ⟨S_, .f32⟩
  | .hbm, ⟨20, _⟩ => ⟨S2x8x8x8x64x64, .f32⟩
  | .hbm, ⟨21, _⟩ => ⟨S2x8x8x8x64x64, .f32⟩
  | .hbm, ⟨22, _⟩ => ⟨S_, .f32⟩
  | .hbm, ⟨23, _⟩ => ⟨S_, .f32⟩
  | .hbm, ⟨24, _⟩ => ⟨S2x8x8x8x64x64, .i1⟩
  | .hbm, ⟨25, _⟩ => ⟨S2x8x8x8x64x64, .f32⟩
  | .hbm, ⟨26, _⟩ => ⟨S2x8x8x8x64x64, .f32⟩
  | .hbm, ⟨27, _⟩ => ⟨S2x8x8x64x8x64, .f32⟩
  | .hbm, ⟨28, _⟩ => ⟨S2x8x8x64x512, .f32⟩
  | _, _ => ⟨S2x8x15x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_5 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_6 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]
-- ==== Kernel3.lean ====
abbrev S16384x1024 : Shape := ⟨2, ![16384, 1024]⟩
abbrev S2x1x1024 : Shape := ⟨3, ![2, 1, 1024]⟩
abbrev S2x1024x5120 : Shape := ⟨3, ![2, 1024, 5120]⟩
abbrev S16384x5120 : Shape := ⟨2, ![16384, 5120]⟩
abbrev S16384x1536 : Shape := ⟨2, ![16384, 1536]⟩
abbrev S512x1024 : Shape := ⟨2, ![512, 1024]⟩
abbrev S1x1x1024 : Shape := ⟨3, ![1, 1, 1024]⟩
abbrev S1x1024x5120 : Shape := ⟨3, ![1, 1024, 5120]⟩
abbrev S512x5120 : Shape := ⟨2, ![512, 5120]⟩
abbrev S512x1536 : Shape := ⟨2, ![512, 1536]⟩
abbrev S1024x5120 : Shape := ⟨2, ![1024, 5120]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1x1024 : Shape := ⟨2, ![1, 1024]⟩
abbrev S512x512 : Shape := ⟨2, ![512, 512]⟩

abbrev nBuf : Space → Nat
  | .hbm => 5
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1024x5120, .f32⟩
  | .hbm, ⟨3, _⟩ => ⟨S16384x5120, .bf16⟩
  | .hbm, ⟨4, _⟩ => ⟨S16384x1536, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x5120, .f32⟩
  | .local _ .vmem, ⟨4, _⟩ => ⟨S512x5120, .bf16⟩
  | .local _ .vmem, ⟨5, _⟩ => ⟨S512x5120, .bf16⟩
  | .local _ .vmem, ⟨6, _⟩ => ⟨S512x1536, .f32⟩
  | .local _ .vmem, ⟨7, _⟩ => ⟨S512x1536, .f32⟩
  | .local _ .vmem, ⟨8, _⟩ => ⟨S1024x5120, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16384x1024 : Shape := ⟨2, ![16384, 1024]⟩
abbrev S2x1x1024 : Shape := ⟨3, ![2, 1, 1024]⟩
abbrev S2x1024x5120 : Shape := ⟨3, ![2, 1024, 5120]⟩
abbrev S1x1x1024 : Shape := ⟨3, ![1, 1, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x5120 : Shape := ⟨3, ![1, 1024, 5120]⟩
abbrev S1024x5120 : Shape := ⟨2, ![1024, 5120]⟩
abbrev S16384x5120 : Shape := ⟨2, ![16384, 5120]⟩
abbrev S16384x1536 : Shape := ⟨2, ![16384, 1536]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1024x5120, .f32⟩
  | .hbm, ⟨3, _⟩ => ⟨S1x1x1024, .f32⟩
  | .hbm, ⟨4, _⟩ => ⟨S1x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S1x1024x5120, .f32⟩
  | .hbm, ⟨21, _⟩ => ⟨S1024x5120, .f32⟩
  | .hbm, ⟨22, _⟩ => ⟨S16384x5120, .f32⟩
  | .hbm, ⟨23, _⟩ => ⟨S16384x5120, .bf16⟩
  | .hbm, ⟨24, _⟩ => ⟨S16384x1536, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel4.lean ====
abbrev S4x16384x128 : Shape := ⟨3, ![4, 16384, 128]⟩
abbrev S16384x5120 : Shape := ⟨2, ![16384, 5120]⟩
abbrev S16384x512 : Shape := ⟨2, ![16384, 512]⟩
abbrev S16384x1024 : Shape := ⟨2, ![16384, 1024]⟩
abbrev S2x1536x1024 : Shape := ⟨3, ![2, 1536, 1024]⟩
abbrev S2x512x512 : Shape := ⟨3, ![2, 512, 512]⟩
abbrev S2x1x512 : Shape := ⟨3, ![2, 1, 512]⟩
abbrev S1x1x1024 : Shape := ⟨3, ![1, 1, 1024]⟩
abbrev S4x1024x128 : Shape := ⟨3, ![4, 1024, 128]⟩
abbrev S1024x512 : Shape := ⟨2, ![1024, 512]⟩
abbrev S1024x1024 : Shape := ⟨2, ![1024, 1024]⟩
abbrev S1x1536x1024 : Shape := ⟨3, ![1, 1536, 1024]⟩
abbrev S1x512x512 : Shape := ⟨3, ![1, 512, 512]⟩
abbrev S1x1x512 : Shape := ⟨3, ![1, 1, 512]⟩
abbrev S1536x1024 : Shape := ⟨2, ![1536, 1024]⟩
abbrev S512x512 : Shape := ⟨2, ![512, 512]⟩
abbrev S1x512x1024 : Shape := ⟨3, ![1, 512, 1024]⟩
abbrev S512x1024 : Shape := ⟨2, ![512, 1024]⟩
abbrev S1x1024x128 : Shape := ⟨3, ![1, 1024, 128]⟩
abbrev S1024x128 : Shape := ⟨2, ![1024, 128]⟩
abbrev S1x512 : Shape := ⟨2, ![1, 512]⟩
abbrev S1024 : Shape := ⟨1, ![1024]⟩
abbrev S1024x1 : Shape := ⟨2, ![1024, 1]⟩
abbrev S1x1024 : Shape := ⟨2, ![1, 1024]⟩

abbrev nBuf : Space → Nat
  | .hbm => 10
  | .vmem => 18
  | .smem => 0
  | _ => 0

abbrev bufTy : (tb : Table) → Fin (tcTables nBuf tb) → BufTy
  | .hbm, ⟨0, _⟩ => ⟨S4x16384x128, .f32⟩
  | .hbm, ⟨1, _⟩ => ⟨S16384x5120, .bf16⟩
  | .hbm, ⟨2, _⟩ => ⟨S16384x512, .bf16⟩
  | .hbm, ⟨3, _⟩ => ⟨S16384x512, .bf16⟩
  | .hbm, ⟨4, _⟩ => ⟨S16384x1024, .f32⟩
  | .hbm, ⟨5, _⟩ => ⟨S2x1536x1024, .f32⟩
  | .hbm, ⟨6, _⟩ => ⟨S2x512x512, .f32⟩
  | .hbm, ⟨7, _⟩ => ⟨S2x1x512, .f32⟩
  | .hbm, ⟨8, _⟩ => ⟨S1x1x1024, .f32⟩
  | .hbm, ⟨9, _⟩ => ⟨S16384x1024, .f32⟩
  | .local _ .vmem, ⟨0, _⟩ => ⟨S4x1024x128, .f32⟩
  | .local _ .vmem, ⟨1, _⟩ => ⟨S4x1024x128, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .f32⟩
  | .local _ .vmem, ⟨9, _⟩ => ⟨S1024x1024, .f32⟩
  | .local _ .vmem, ⟨10, _⟩ => ⟨S1x1536x1024, .f32⟩
  | .local _ .vmem, ⟨11, _⟩ => ⟨S1x512x512, .f32⟩
  | .local _ .vmem, ⟨12, _⟩ => ⟨S1x1x512, .f32⟩
  | .local _ .vmem, ⟨13, _⟩ => ⟨S1x1x1024, .f32⟩
  | .local _ .vmem, ⟨14, _⟩ => ⟨S1024x1024, .f32⟩
  | .local _ .vmem, ⟨15, _⟩ => ⟨S1024x1024, .f32⟩
  | .local _ .vmem, ⟨16, _⟩ => ⟨S1536x1024, .bf16⟩
  | .local _ .vmem, ⟨17, _⟩ => ⟨S512x512, .bf16⟩
  | _, _ => ⟨S4x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1536x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S4x16384x128 : Shape := ⟨3, ![4, 16384, 128]⟩
abbrev S16384x5120 : Shape := ⟨2, ![16384, 5120]⟩
abbrev S16384x512 : Shape := ⟨2, ![16384, 512]⟩
abbrev S16384x1024 : Shape := ⟨2, ![16384, 1024]⟩
abbrev S2x1536x1024 : Shape := ⟨3, ![2, 1536, 1024]⟩
abbrev S2x512x512 : Shape := ⟨3, ![2, 512, 512]⟩
abbrev S2x1x512 : Shape := ⟨3, ![2, 1, 512]⟩
abbrev S1x1x1024 : Shape := ⟨3, ![1, 1, 1024]⟩
abbrev S16384x4x128 : Shape := ⟨3, ![16384, 4, 128]⟩
abbrev S_ : Shape := ⟨0, ![]⟩
abbrev S1x512x512 : Shape := ⟨3, ![1, 512, 512]⟩
abbrev S512x512 : Shape := ⟨2, ![512, 512]⟩
abbrev S1x1x512 : Shape := ⟨3, ![1, 1, 512]⟩
abbrev S1x512 : Shape := ⟨2, ![1, 512]⟩
abbrev S16384x1536 : Shape := ⟨2, ![16384, 1536]⟩
abbrev S1x1536x1024 : Shape := ⟨3, ![1, 1536, 1024]⟩
abbrev S1536x1024 : Shape := ⟨2, ![1536, 1024]⟩
abbrev S1x1024 : Shape := ⟨2, ![1, 1024]⟩
abbrev S16384 : Shape := ⟨1, ![16384]⟩
abbrev S16384x1 : Shape := ⟨2, ![16384, 1]⟩

abbrev nBuf : Space → Nat
  | .hbm => 79
  | .vmem => 0
  | .smem => 0
  | _ => 0

abbrev bufTy : (tb : Table) → Fin (tcTables nBuf tb) → BufTy
  | .hbm, ⟨0, _⟩ => ⟨S4x16384x128, .f32⟩
  | .hbm, ⟨1, _⟩ => ⟨S16384x5120, .bf16⟩
  | .hbm, ⟨2, _⟩ => ⟨S16384x512, .bf16⟩
  | .hbm, ⟨3, _⟩ => ⟨S16384x512, .bf16⟩
  | .hbm, ⟨4, _⟩ => ⟨S16384x1024, .f32⟩
  | .hbm, ⟨5, _⟩ => ⟨S2x1536x1024, .f32⟩
  | .hbm, ⟨6, _⟩ => ⟨S2x512x512, .f32⟩
  | .hbm, ⟨7, _⟩ => ⟨S2x1x512, .f32⟩
  | .hbm, ⟨8, _⟩ => ⟨S1x1x1024, .f32⟩
  | .hbm, ⟨9, _⟩ => ⟨S16384x4x128, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S_, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S1x512x512, .f32⟩
  | .hbm, ⟨29, _⟩ => ⟨S512x512, .f32⟩
  | .hbm, ⟨30, _⟩ => ⟨S16384x512, .f32⟩
  | .hbm, ⟨31, _⟩ => ⟨S1x1x512, .f32⟩
  | .hbm, ⟨32, _⟩ => ⟨S1x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .bf16⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S_, .f32⟩
  | .hbm, ⟨49, _⟩ => ⟨S16384x512, .f32⟩
  | .hbm, ⟨50, _⟩ => ⟨S16384x512, .f32⟩
  | .hbm, ⟨51, _⟩ => ⟨S_, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S16384x1536, .f32⟩
  | .hbm, ⟨59, _⟩ => ⟨S1x1536x1024, .f32⟩
  | .hbm, ⟨60, _⟩ => ⟨S1536x1024, .f32⟩
  | .hbm, ⟨61, _⟩ => ⟨S16384x1024, .f32⟩
  | .hbm, ⟨62, _⟩ => ⟨S16384x1024, .f32⟩
  | .hbm, ⟨63, _⟩ => ⟨S1x1024, .f32⟩
  | .hbm, ⟨64, _⟩ => ⟨S16384x1024, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S16384x1, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | _, _ => ⟨S4x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_5 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩

abbrev nD : Nat := 1
abbrev τ : Topo := Topo.v7x

variable {F : FTy → Type} [FloatOps F]
-- ==== Kernel5.lean ====
abbrev S4x16384x128 : Shape := ⟨3, ![4, 16384, 128]⟩
abbrev S16384x5120 : Shape := ⟨2, ![16384, 5120]⟩
abbrev S16384x512 : Shape := ⟨2, ![16384, 512]⟩
abbrev S16384x1024 : Shape := ⟨2, ![16384, 1024]⟩
abbrev S2x1536x1024 : Shape := ⟨3, ![2, 1536, 1024]⟩
abbrev S2x512x512 : Shape := ⟨3, ![2, 512, 512]⟩
abbrev S2x1x512 : Shape := ⟨3, ![2, 1, 512]⟩
abbrev S1x1x1024 : Shape := ⟨3, ![1, 1, 1024]⟩
abbrev S4x1024x128 : Shape := ⟨3, ![4, 1024, 128]⟩
abbrev S1024x512 : Shape := ⟨2, ![1024, 512]⟩
abbrev S1024x1024 : Shape := ⟨2, ![1024, 1024]⟩
abbrev S1x1536x1024 : Shape := ⟨3, ![1, 1536, 1024]⟩
abbrev S1x512x512 : Shape := ⟨3, ![1, 512, 512]⟩
abbrev S1x1x512 : Shape := ⟨3, ![1, 1, 512]⟩
abbrev S1536x1024 : Shape := ⟨2, ![1536, 1024]⟩
abbrev S512x512 : Shape := ⟨2, ![512, 512]⟩
abbrev S1x512x1024 : Shape := ⟨3, ![1, 512, 1024]⟩
abbrev S512x1024 : Shape := ⟨2, ![512, 1024]⟩
abbrev S1x1024x128 : Shape := ⟨3, ![1, 1024, 128]⟩
abbrev S1024x128 : Shape := ⟨2, ![1024, 128]⟩
abbrev S1x512 : Shape := ⟨2, ![1, 512]⟩

abbrev nBuf : Space → Nat
  | .hbm => 10
  | .vmem => 18
  | .smem => 0
  | _ => 0

abbrev bufTy : (tb : Table) → Fin (tcTables nBuf tb) → BufTy
  | .hbm, ⟨0, _⟩ => ⟨S4x16384x128, .f32⟩
  | .hbm, ⟨1, _⟩ => ⟨S16384x5120, .bf16⟩
  | .hbm, ⟨2, _⟩ => ⟨S16384x512, .bf16⟩
  | .hbm, ⟨3, _⟩ => ⟨S16384x512, .bf16⟩
  | .hbm, ⟨4, _⟩ => ⟨S16384x1024, .f32⟩
  | .hbm, ⟨5, _⟩ => ⟨S2x1536x1024, .f32⟩
  | .hbm, ⟨6, _⟩ => ⟨S2x512x512, .f32⟩
  | .hbm, ⟨7, _⟩ => ⟨S2x1x512, .f32⟩
  | .hbm, ⟨8, _⟩ => ⟨S1x1x1024, .f32⟩
  | .hbm, ⟨9, _⟩ => ⟨S16384x1024, .f32⟩
  | .local _ .vmem, ⟨0, _⟩ => ⟨S4x1024x128, .f32⟩
  | .local _ .vmem, ⟨1, _⟩ => ⟨S4x1024x128, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .f32⟩
  | .local _ .vmem, ⟨9, _⟩ => ⟨S1024x1024, .f32⟩
  | .local _ .vmem, ⟨10, _⟩ => ⟨S1x1536x1024, .f32⟩
  | .local _ .vmem, ⟨11, _⟩ => ⟨S1x512x512, .f32⟩
  | .local _ .vmem, ⟨12, _⟩ => ⟨S1x1x512, .f32⟩
  | .local _ .vmem, ⟨13, _⟩ => ⟨S1x1x1024, .f32⟩
  | .local _ .vmem, ⟨14, _⟩ => ⟨S1024x1024, .f32⟩
  | .local _ .vmem, ⟨15, _⟩ => ⟨S1024x1024, .f32⟩
  | .local _ .vmem, ⟨16, _⟩ => ⟨S1536x1024, .bf16⟩
  | .local _ .vmem, ⟨17, _⟩ => ⟨S512x512, .bf16⟩
  | _, _ => ⟨S4x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1536x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S4x16384x128 : Shape := ⟨3, ![4, 16384, 128]⟩
abbrev S16384x5120 : Shape := ⟨2, ![16384, 5120]⟩
abbrev S16384x512 : Shape := ⟨2, ![16384, 512]⟩
abbrev S16384x1024 : Shape := ⟨2, ![16384, 1024]⟩
abbrev S2x1536x1024 : Shape := ⟨3, ![2, 1536, 1024]⟩
abbrev S2x512x512 : Shape := ⟨3, ![2, 512, 512]⟩
abbrev S2x1x512 : Shape := ⟨3, ![2, 1, 512]⟩
abbrev S1x1x1024 : Shape := ⟨3, ![1, 1, 1024]⟩
abbrev S16384x4x128 : Shape := ⟨3, ![16384, 4, 128]⟩
abbrev S_ : Shape := ⟨0, ![]⟩
abbrev S1x512x512 : Shape := ⟨3, ![1, 512, 512]⟩
abbrev S512x512 : Shape := ⟨2, ![512, 512]⟩
abbrev S1x1x512 : Shape := ⟨3, ![1, 1, 512]⟩
abbrev S1x512 : Shape := ⟨2, ![1, 512]⟩
abbrev S16384x1536 : Shape := ⟨2, ![16384, 1536]⟩
abbrev S1x1536x1024 : Shape := ⟨3, ![1, 1536, 1024]⟩
abbrev S1536x1024 : Shape := ⟨2, ![1536, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4x16384x128, .f32⟩
  | .hbm, ⟨1, _⟩ => ⟨S16384x5120, .bf16⟩
  | .hbm, ⟨2, _⟩ => ⟨S16384x512, .bf16⟩
  | .hbm, ⟨3, _⟩ => ⟨S16384x512, .bf16⟩
  | .hbm, ⟨4, _⟩ => ⟨S16384x1024, .f32⟩
  | .hbm, ⟨5, _⟩ => ⟨S2x1536x1024, .f32⟩
  | .hbm, ⟨6, _⟩ => ⟨S2x512x512, .f32⟩
  | .hbm, ⟨7, _⟩ => ⟨S2x1x512, .f32⟩
  | .hbm, ⟨8, _⟩ => ⟨S1x1x1024, .f32⟩
  | .hbm, ⟨9, _⟩ => ⟨S16384x4x128, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S_, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S1x512x512, .f32⟩
  | .hbm, ⟨29, _⟩ => ⟨S512x512, .f32⟩
  | .hbm, ⟨30, _⟩ => ⟨S16384x512, .f32⟩
  | .hbm, ⟨31, _⟩ => ⟨S1x1x512, .f32⟩
  | .hbm, ⟨32, _⟩ => ⟨S1x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .bf16⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S_, .f32⟩
  | .hbm, ⟨49, _⟩ => ⟨S16384x512, .f32⟩
  | .hbm, ⟨50, _⟩ => ⟨S16384x512, .f32⟩
  | .hbm, ⟨51, _⟩ => ⟨S_, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S16384x1536, .f32⟩
  | .hbm, ⟨59, _⟩ => ⟨S1x1536x1024, .f32⟩
  | .hbm, ⟨60, _⟩ => ⟨S1536x1024, .f32⟩
  | .hbm, ⟨61, _⟩ => ⟨S16384x1024, .f32⟩
  | .hbm, ⟨62, _⟩ => ⟨S16384x1024, .f32⟩
  | _, _ => ⟨S4x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]
-- ==== Kernel6.lean ====
abbrev S8x9x512 : Shape := ⟨3, ![8, 9, 512]⟩
abbrev S8x3x3x128x256 : Shape := ⟨5, ![8, 3, 3, 128, 256]⟩
abbrev S1x9x512 : Shape := ⟨3, ![1, 9, 512]⟩
abbrev S1x3x3x128x256 : Shape := ⟨5, ![1, 3, 3, 128, 256]⟩
abbrev S1x1x512 : Shape := ⟨3, ![1, 1, 512]⟩
abbrev S1x512 : Shape := ⟨2, ![1, 512]⟩
abbrev S128x512 : Shape := ⟨2, ![128, 512]⟩
abbrev S128x256 : Shape := ⟨2, ![128, 256]⟩
abbrev S1x1x1x128x256 : Shape := ⟨5, ![1, 1, 1, 128, 256]⟩

abbrev nBuf : Space → Nat
  | .hbm => 2
  | .vmem => 4
  | .smem => 0
  | _ => 0

abbrev bufTy : (tb : Table) → Fin (tcTables nBuf tb) → BufTy
  | .hbm, ⟨0, _⟩ => ⟨S8x9x512, .f32⟩
  | .hbm, ⟨1, _⟩ => ⟨S8x3x3x128x256, .f32⟩
  | .local _ .vmem, ⟨0, _⟩ => ⟨S1x9x512, .f32⟩
  | .local _ .vmem, ⟨1, _⟩ => ⟨S1x9x512, .f32⟩
  | .local _ .vmem, ⟨2, _⟩ => ⟨S1x3x3x128x256, .f32⟩
  | .local _ .vmem, ⟨3, _⟩ => ⟨S1x3x3x128x256, .f32⟩
  | _, _ => ⟨S8x9x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x9x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x3x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference6Ideal.lean ====
abbrev S8x9x512 : Shape := ⟨3, ![8, 9, 512]⟩
abbrev S128 : Shape := ⟨1, ![128]⟩
abbrev S256 : Shape := ⟨1, ![256]⟩
abbrev S8x9x1024 : Shape := ⟨3, ![8, 9, 1024]⟩
abbrev S1x256 : Shape := ⟨2, ![1, 256]⟩
abbrev S128x1 : Shape := ⟨2, ![128, 1]⟩
abbrev S128x256 : Shape := ⟨2, ![128, 256]⟩
abbrev S_ : Shape := ⟨0, ![]⟩
abbrev S128x256x1 : Shape := ⟨3, ![128, 256, 1]⟩
abbrev S8x9x128x256 : Shape := ⟨4, ![8, 9, 128, 256]⟩
abbrev S8x3x3x128x256 : Shape := ⟨5, ![8, 3, 3, 128, 256]⟩

abbrev nBuf : Space → Nat
  | .hbm => 22
  | .vmem => 0
  | .smem => 0
  | _ => 0

abbrev bufTy : (tb : Table) → Fin (tcTables nBuf tb) → BufTy
  | .hbm, ⟨0, _⟩ => ⟨S8x9x512, .f32⟩
  | .hbm, ⟨1, _⟩ => ⟨S128, .i32⟩
  | .hbm, ⟨2, _⟩ => ⟨S256, .i32⟩
  | .hbm, ⟨3, _⟩ => ⟨S8x9x1024, .f32⟩
  | .hbm, ⟨4, _⟩ => ⟨S1x256, .i32⟩
  | .hbm, ⟨5, _⟩ => ⟨S128x1, .i32⟩
  | .hbm, ⟨6, _⟩ => ⟨S128x256, .i32⟩
  | .hbm, ⟨7, _⟩ => ⟨S128x256, .i32⟩
  | .hbm, ⟨8, _⟩ => ⟨S128x256, .i32⟩
  | .hbm, ⟨9, _⟩ => ⟨S_, .i32⟩
  | .hbm, ⟨10, _⟩ => ⟨S128x256, .i32⟩
  | .hbm, ⟨11, _⟩ => ⟨S128x256, .i32⟩
  | .hbm, ⟨12, _⟩ => ⟨S_, .i32⟩
  | .hbm, ⟨13, _⟩ => ⟨S128x256, .i32⟩
  | .hbm, ⟨14, _⟩ => ⟨S128x256, .i1⟩
  | .hbm, ⟨15, _⟩ => ⟨S_, .i32⟩
  | .hbm, ⟨16, _⟩ => ⟨S128x256, .i32⟩
  | .hbm, ⟨17, _⟩ => ⟨S128x256, .i32⟩
  | .hbm, ⟨18, _⟩ => ⟨S128x256, .i32⟩
  | .hbm, ⟨19, _⟩ => ⟨S128x256x1, .i32⟩
  | .hbm, ⟨20, _⟩ => ⟨S8x9x128x256, .f32⟩
  | .hbm, ⟨21, _⟩ => ⟨S8x3x3x128x256, .f32⟩
  | _, _ => ⟨S8x9x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_c_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Proof.Frames.lean ====
/-
Every program runs to its end with its arguments unchanged and its semaphores at zero, and each idealised kernel is the
kernel with nothing but its named constants replaced.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel6.Frame
public import proofs.«01_k».proof.Proof.Gen.Kernel5Ideal.Frame
public import proofs.«01_k».proof.Proof.Gen.Kernel6Ideal.Frame
public import proofs.«01_k».proof.Proof.Gen.Reference5Ideal.Run
public import proofs.«01_k».proof.Proof.Gen.Reference6Ideal.Run
public import Idealize.ShloMosaic.Adequacy
public import Idealize.ShloMosaic.Init

@[expose] public section

open Idealize.ShloMosaic Idealize.SL.Sem

namespace Cert.Proof

theorem frame_Kernel : Cert.quiescent_Kernel := fun m ρ _ => Cert.Kernel.Gen.frame m ρ
theorem frame_KernelIdeal : Cert.quiescent_KernelIdeal := fun m ρ _ => Cert.KernelIdeal.Gen.frame m ρ
theorem frame_Kernel2 : Cert.quiescent_Kernel2 := fun m ρ _ => Cert.Kernel2.Gen.frame m ρ
theorem frame_Kernel2Ideal : Cert.quiescent_Kernel2Ideal := fun m ρ _ => Cert.Kernel2Ideal.Gen.frame m ρ
theorem frame_Kernel3 : Cert.quiescent_Kernel3 := fun m ρ _ => Cert.Kernel3.Gen.frame m ρ
theorem frame_Kernel3Ideal : Cert.quiescent_Kernel3Ideal := fun m ρ _ => Cert.Kernel3Ideal.Gen.frame m ρ
theorem frame_Kernel4 : Cert.quiescent_Kernel4 := fun m ρ _ => Cert.Kernel4.Gen.frame m ρ
theorem frame_Kernel4Ideal : Cert.quiescent_Kernel4Ideal := fun m ρ _ => Cert.Kernel4Ideal.Gen.frame m ρ

theorem frame_Kernel5 : Cert.quiescent_Kernel5 := fun m ρ _ => Cert.Kernel5.Gen.frame m ρ
theorem frame_Kernel6 : Cert.quiescent_Kernel6 := fun m ρ _ => Cert.Kernel6.Gen.frame m ρ
theorem frame_Kernel5Ideal : Cert.quiescent_Kernel5Ideal := fun m ρ _ => Cert.Kernel5Ideal.Gen.frame m ρ
theorem frame_Kernel6Ideal : Cert.quiescent_Kernel6Ideal := fun m ρ _ => Cert.Kernel6Ideal.Gen.frame m ρ

theorem frame_ReferenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_Reference2Ideal : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

theorem frame_Reference3Ideal : Cert.quiescent_Reference3Ideal := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

theorem frame_Reference4Ideal : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

theorem frame_Reference5Ideal : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

theorem frame_Reference6Ideal : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

theorem preserves_Kernel : Cert.preserves_Kernel_KernelIdeal :=
  IdealRules.named_const.statement Cert.KernelIdeal.κ "q_scale" .f32 0x3E38AA3B#32 (((1 / 8) * (Real.log 2)⁻¹ : ℝ) : EReal) rfl

theorem preserves_Kernel2 : Cert.preserves_Kernel2_Kernel2Ideal :=
  ⟨IdealRules.named_const.statement Cert.Kernel2Ideal.κ "log2e" .f32 0x3FB8AA3B#32 (((Real.log 2)⁻¹ : ℝ) : EReal) rfl,
   IdealRules.named_const.statement Cert.Kernel2Ideal.κ "mask" .f32 0xF149F2CA#32 ⊥ rfl⟩

end Cert.Proof
-- ==== Proof.InProj.lean ====
/-
The normalisation and the combined input projection: kernel and reference both end with the projections of the normalised
stream and with the part of them that the recurrence reads. The kernel copies the weights to scratch at its first point and
holds them from then on.
-/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Kernel3Ideal.InProj

open Idealize.ShloMosaic Idealize.ShloMosaic.TcCoe Idealize.SL.Sem Cert.Kernel3Ideal Cert.Kernel3Ideal.Gen

variable (m : (ℓ : Loc nD τ sig) → Buf (Elt Ideal) ℓ)

def plane (w : Vec Ideal S1x1024x5120 .f32) : Vec Ideal S1024x5120 .bf16 := fun j => w (ix3 0 (j 0) (j 1))

theorem idx : ∀ t : Fin cfg0.N, win0_0.index t = ![t.val, 0] ∧ win0_1.index t = ![0, 0, 0] ∧ win0_2.index t = ![0, 0, 0]
    ∧ win0_3.index t = ![t.val, 0] ∧ win0_4.index t = ![t.val, 0] :=
  (by decide +kernel : ∀ t : Fin grid0.N, _)

theorem scratch (c : Dev nD) (t : Fin cfg0.N) (i : S1024x5120.Idx) :
    (outsAt0 m c t.val t.isLt).2.2 i = plane (iblk m c 2 ⟨32 * (t.val / 32), Pipeline.run_start_lt t⟩) i := by
  refine Pipeline.eq_of_write_hold_apply (fun n h => (outsAt0 m c n h).2.2) 32 (fun t => plane (iblk m c 2 t)) ?_ ?_ t i
  · intro t h0 i
    rw [outsAt0_A m c t h0]
    frame_out
    canon_tiles x h
    all_goals (open_payloads; pointwise [plane]; blk_point [])
  · intro t h0 i
    rw [outsAt0_B m c t h0]
    rfl

theorem out3_A (c : Dev nD) (t : Fin cfg0.N) (h0 : t.val % 32 = 0) (y : S512x5120.Idx) (W : Vec Ideal S1x1024x5120 .f32)
    (hW : (outsAt0 m c t.val t.isLt).2.2 = plane W) :
    (outsAt0 m c t.val t.isLt).1 y = ∑ k : Fin 1024, k0_pay14 (iblk m c 0 t) (iblk m c 1 t) (ix2 (y 0) k) * W (ix3 0 k (y 1)) := by
  rw [outsAt0_A m c t h0] at hW ⊢
  frame_out at hW
  frame_out
  simp only [View.readCov_eq_canon', hW]
  clear hW
  canon_tiles x h
  all_goals (open_payloads; pointwise [plane]; blk_point [])

theorem out3_B (c : Dev nD) (t : Fin cfg0.N) (h0 : ¬ t.val % 32 = 0) (y : S512x5120.Idx) (W : Vec Ideal S1x1024x5120 .f32)
    (hW : (outsAt0 m c (t.val - 1) (Nat.lt_of_le_of_lt (Nat.sub_le _ _) t.isLt)).2.2 = plane W) :
    (outsAt0 m c t.val t.isLt).1 y = ∑ k : Fin 1024, k0_pay14 (iblk m c 0 t) (iblk m c 1 t) (ix2 (y 0) k) * W (ix3 0 k (y 1)) := by
  rw [outsAt0_B m c t h0]
  frame_out
  rw [hW]
  simp only [read_unread_whole]
  clear hW
  canon_tiles x h
  all_goals (open_payloads; pointwise [plane]; blk_point [])

theorem out4_A (c : Dev nD) (t : Fin cfg0.N) (h0 : t.val % 32 = 0) (y : S512x1536.Idx) (W : Vec Ideal S1x1024x5120 .f32)
    (hW : (outsAt0 m c t.val t.isLt).2.2 = plane W) :
    (outsAt0 m c t.val t.isLt).2.1 y = ∑ k : Fin 1024, k0_pay14 (iblk m c 0 t) (iblk m c 1 t) (ix2 (y 0) k) * W (ix3 0 k (⟨3072 + (y 1 : ℕ), by have := (y 1).isLt; change _ < 1536 at this; omega⟩)) := by
  rw [outsAt0_A m c t h0] at hW ⊢
  frame_out at hW
  frame_out
  simp only [View.readCov_eq_canon', hW]
  clear hW
  canon_tiles x h
  all_goals (open_payloads; pointwise [plane]; blk_point [])

theorem out4_B (c : Dev nD) (t : Fin cfg0.N) (h0 : ¬ t.val % 32 = 0) (y : S512x1536.Idx) (W : Vec Ideal S1x1024x5120 .f32)
    (hW : (outsAt0 m c (t.val - 1) (Nat.lt_of_le_of_lt (Nat.sub_le _ _) t.isLt)).2.2 = plane W) :
    (outsAt0 m c t.val t.isLt).2.1 y = ∑ k : Fin 1024, k0_pay14 (iblk m c 0 t) (iblk m c 1 t) (ix2 (y 0) k) * W (ix3 0 k (⟨3072 + (y 1 : ℕ), by have := (y 1).isLt; change _ < 1536 at this; omega⟩)) := by
  rw [outsAt0_B m c t h0]
  frame_out
  rw [hW]
  simp only [read_unread_whole]
  clear hW
  canon_tiles x h
  all_goals (open_payloads; pointwise [plane]; blk_point [])

/-- One entry of the normalised input. -/
def rms (x : Vec Ideal S16384x1024 .f32) (g : Vec Ideal S2x1x1024 .f32) (i : Fin 16384) (k : Fin 1024) : EReal :=
  x (ix2 i k) * Ideal.rsqrt (Ideal.div (∑ l : Fin 1024, x (ix2 i l) * x (ix2 i l)) (Ideal.ofBits .f32 0x44800000#32) + Ideal.ofBits .f32 0x358637BD#32)
    * g (ix3 0 0 k)

/-- One entry of the projection. -/
def proj (x : Vec Ideal S16384x1024 .f32) (g : Vec Ideal S2x1x1024 .f32) (w : Vec Ideal S2x1024x5120 .f32) (i : Fin 16384) (j : Fin 5120) : EReal :=
  ∑ k : Fin 1024, rms x g i k * w (ix3 0 k j)

theorem norm_at (c : Dev nD) (t : Fin cfg0.N) (i : Fin 512) (k : Fin 1024) :
    k0_pay14 (iblk m c 0 t) (iblk m c 1 t) (ix2 i k)
      = rms (m ((c : Thread nD τ).loc main_arg0)) (m ((c : Thread nD τ).loc main_arg1)) ⟨512 * t.val + i, by have := t.isLt; have : cfg0.N = 32 := N_0; omega⟩ k := by
  pointwise [k0_pay14, rms]
  blk_point [iblk, V, idx t]

theorem held (c : Dev nD) (t : Fin cfg0.N) :
    (outsAt0 m c t.val t.isLt).2.2 = plane (iblk m c 2 ⟨32 * (t.val / 32), Pipeline.run_start_lt t⟩) :=
  funext fun i => scratch m c t i

theorem weight_at (c : Dev nD) (t : Fin cfg0.N) (k : Fin 1024) (j : Fin 5120) :
    iblk m c 2 t (ix3 0 k j) = m ((c : Thread nD τ).loc main_arg2) (ix3 0 k j) := by
  blk_point [iblk, V, idx t]

theorem out3 (c : Dev nD) (t : Fin cfg0.N) (y : S512x5120.Idx) (i : Fin 16384) (j : Fin 5120)
    (hi : (i : ℕ) = 512 * t.val + (y 0 : ℕ)) (hj : (j : ℕ) = (y 1 : ℕ)) :
    (outsAt0 m c t.val t.isLt).1 y
      = proj (m ((c : Thread nD τ).loc main_arg0)) (m ((c : Thread nD τ).loc main_arg1)) (m ((c : Thread nD τ).loc main_arg2)) i j := by
  have hlt : 512 * t.val + (y 0 : ℕ) < 16384 := hi ▸ i.isLt
  rw [show i = ⟨512 * t.val + (y 0 : ℕ), hlt⟩ from Fin.ext hi]
  obtain rfl : j = y 1 := Fin.ext hj
  by_cases h0 : t.val % 32 = 0
  · rw [out3_A m c t h0 y _ (held m c t)]
    exact Fintype.sum_congr _ _ fun k => congrArg₂ (· * ·) (norm_at m c t (y 0) k) (weight_at m c _ k (y 1))
  · rw [out3_B m c t h0 y _ (held m c ⟨t.val - 1, Nat.lt_of_le_of_lt (Nat.sub_le _ _) t.isLt⟩)]
    exact Fintype.sum_congr _ _ fun k => congrArg₂ (· * ·) (norm_at m c t (y 0) k) (weight_at m c _ k (y 1))

theorem out4 (c : Dev nD) (t : Fin cfg0.N) (y : S512x1536.Idx) (i : Fin 16384) (j : Fin 5120)
    (hi : (i : ℕ) = 512 * t.val + (y 0 : ℕ)) (hj : (j : ℕ) = 3072 + (y 1 : ℕ)) :
    (outsAt0 m c t.val t.isLt).2.1 y
      = proj (m ((c : Thread nD τ).loc main_arg0)) (m ((c : Thread nD τ).loc main_arg1)) (m ((c : Thread nD τ).loc main_arg2)) i j := by
  have hlt : 512 * t.val + (y 0 : ℕ) < 16384 := hi ▸ i.isLt
  rw [show i = ⟨512 * t.val + (y 0 : ℕ), hlt⟩ from Fin.ext hi]
  have hlt' : 3072 + (y 1 : ℕ) < 5120 := hj ▸ j.isLt
  rw [show j = ⟨3072 + (y 1 : ℕ), hlt'⟩ from Fin.ext hj]
  by_cases h0 : t.val % 32 = 0
  · rw [out4_A m c t h0 y _ (held m c t)]
    exact Fintype.sum_congr _ _ fun k => congrArg₂ (· * ·) (norm_at m c t (y 0) k) (weight_at m c _ k _)
  · rw [out4_B m c t h0 y _ (held m c ⟨t.val - 1, Nat.lt_of_le_of_lt (Nat.sub_le _ _) t.isLt⟩)]
    exact Fintype.sum_congr _ _ fun k => congrArg₂ (· * ·) (norm_at m c t (y 0) k) (weight_at m c _ k _)

/-- The whole projection, as the kernel leaves it. -/
theorem final3 (c : Dev nD) : (dats m 0 c).arrAt 3 cfg0.N
    = fun j : S16384x5120.Idx => proj (m ((c : Thread nD τ).loc main_arg0)) (m ((c : Thread nD τ).loc main_arg1)) (m ((c : Thread nD τ).loc main_arg2)) (j 0) (j 1) := by
  refine (dats m 0 c).arrAt_eq_of_covers 3 _ (by decide +kernel) fun t hf y => ?_
  blk_simp
  rw [after0_3]
  refine out3 m c t y _ _ ?_ ?_ <;> (blk_simp [idx t] <;> try omega)

/-- The columns of the recurrence, as the kernel leaves them. -/
theorem final4 (c : Dev nD) : (dats m 0 c).arrAt 4 cfg0.N
    = fun j : S16384x1536.Idx => proj (m ((c : Thread nD τ).loc main_arg0)) (m ((c : Thread nD τ).loc main_arg1)) (m ((c : Thread nD τ).loc main_arg2)) (j 0)
        ⟨3072 + (j 1 : ℕ), by have := (j 1).isLt; change _ < 1536 at this; omega⟩ := by
  refine (dats m 0 c).arrAt_eq_of_covers 4 _ (by decide +kernel) fun t hf y => ?_
  blk_simp
  rw [after0_4]
  refine out4 m c t y _ _ ?_ ?_ <;> (blk_simp [idx t] <;> try omega)

end Cert.Kernel3Ideal.InProj

namespace Cert.Reference3Ideal

open Idealize.ShloMosaic Idealize.ShloMosaic.TcCoe Idealize.SL.Sem Cert.Kernel3Ideal.InProj

variable (m : (ℓ : Loc nD τ sig) → Buf (Elt Ideal) ℓ) (ρ : Dev nD → PrngReg)

/-- The reference leaves the projection and its last columns but one block. -/
theorem run : θ_run defs (onTc (τ := τ) (main (F := Ideal))) ⟨m, fun _ => 0, ρ⟩ fun r => ∀ c : Dev nD,
      r.2.mem ((c.tc : Thread nD τ).loc main_v17) = (fun j : S16384x5120.Idx => proj (m ((c.tc : Thread nD τ).loc main_arg0)) (m ((c.tc : Thread nD τ).loc main_arg1)) (m ((c.tc : Thread nD τ).loc main_arg2)) (j 0) (j 1))
      ∧ r.2.mem ((c.tc : Thread nD τ).loc main_v18) = (fun j : S16384x1536.Idx => proj (m ((c.tc : Thread nD τ).loc main_arg0)) (m ((c.tc : Thread nD τ).loc main_arg1)) (m ((c.tc : Thread nD τ).loc main_arg2)) (j 0)
        ⟨3072 + (j 1 : ℕ), by have := (j 1).isLt; change _ < 1536 at this; omega⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2.1.trans ?_, (h c).2.2⟩) (Value.run (F := Ideal) m ρ)
  all_goals
    funext j
    pointwise [proj, rms]
    try blk_point []

end Cert.Reference3Ideal

end
-- ==== Proof.Softmax.lean ====
/- The softmax on the extended reals, in base 2 and in base e: what the attention's proof uses of the two, and the
   logistic function through the hyperbolic tangent. -/
module

public import Idealize.ShloMosaic.PureOps.Ideal
public import Mathlib.Analysis.SpecialFunctions.Pow.Real
public import Mathlib.Analysis.SpecialFunctions.Trigonometric.DerivHyp

@[expose] public section

noncomputable section

namespace Cert.Softmax

open Idealize.ShloMosaic

/-- A nonnegative real factor goes into a finite sum. -/
theorem mul_sum {ι : Type*} (s : Finset ι) (f : ι → EReal) {a : EReal} (h0 : 0 ≤ a) (ht : a ≠ ⊤) :
    a * ∑ i ∈ s, f i = ∑ i ∈ s, a * f i := by
  classical
  induction s using Finset.induction_on with
  | empty => simp
  | insert i s hi ih =>
    rw [Finset.sum_insert hi, Finset.sum_insert hi, EReal.left_distrib_of_nonneg_of_ne_top h0 ht, ih]

/-- The reciprocal of log 2. -/
abbrev lg : ℝ := (Real.log 2)⁻¹

theorem lg_pos : 0 < lg := inv_pos.mpr (Real.log_pos one_lt_two)

theorem lg_nonneg : (0 : EReal) ≤ (lg : EReal) := EReal.coe_nonneg.mpr lg_pos.le

/-- The power of two of `x / log 2` is the exponential of `x`. -/
theorem exp2_lg (x : EReal) : Ideal.exp2 ((lg : EReal) * x) = Ideal.exp x := by
  induction x using EReal.rec with
  | bot => rw [EReal.coe_mul_bot_of_pos lg_pos]; rfl
  | top => rw [EReal.coe_mul_top_of_pos lg_pos]; rfl
  | coe r =>
    rw [← EReal.coe_mul, Ideal.exp2_coe]
    show ((2 : ℝ) ^ (lg * r) : ℝ) = ((Real.exp r : ℝ) : EReal)
    rw [Real.rpow_def_of_pos two_pos, ← mul_assoc, mul_inv_cancel₀ (Real.log_pos one_lt_two).ne', one_mul]

theorem lg_sub (x y : EReal) : (lg : EReal) * x - (lg : EReal) * y = (lg : EReal) * (x - y) := by
  rw [sub_eq_add_neg, sub_eq_add_neg, EReal.left_distrib_of_nonneg_of_ne_top lg_nonneg (EReal.coe_ne_top _), mul_comm _ (-y),
    EReal.neg_mul, mul_comm y]

theorem lg_max (x y : EReal) : max ((lg : EReal) * x) ((lg : EReal) * y) = (lg : EReal) * max x y := by
  have hm : Monotone fun z : EReal => (lg : EReal) * z := fun a b h => mul_le_mul_of_nonneg_left h lg_nonneg
  exact (hm.map_max).symm

/-- The greatest of finitely many logits in units of log 2. -/
theorem fold_lg {ι : Type*} (s : Finset ι) (f : ι → EReal) :
    s.fold max ⊥ (fun i => (lg : EReal) * f i) = (lg : EReal) * s.fold max ⊥ f := by
  classical
  induction s using Finset.induction_on with
  | empty => simp [EReal.coe_mul_bot_of_pos lg_pos]
  | insert i s hi ih => rw [Finset.fold_insert hi, Finset.fold_insert hi, ih, lg_max]

theorem exp_nonneg (x : EReal) : 0 ≤ Ideal.exp x := by
  induction x using EReal.rec with
  | bot => exact le_refl _
  | top => exact le_top
  | coe r => exact EReal.coe_nonneg.mpr (Real.exp_pos r).le

/-- Normalising after the sum of the values is normalising the weights, the reciprocal of a vanishing sum included. -/
theorem normalise {ι : Type*} [Fintype ι] (e v : ι → EReal) (he : ∀ i, 0 ≤ e i) :
    (∑ i, e i * v i) * Ideal.div 1 (∑ i, e i) = ∑ i, v i * (e i * Ideal.div 1 (∑ i, e i)) := by
  by_cases hd : ∑ i, e i = 0
  · have h0 : ∀ i, e i = 0 := fun i => by
      have := (Finset.sum_eq_zero_iff_of_nonneg (s := Finset.univ) (f := e) (fun i _ => he i)).mp hd i (Finset.mem_univ _)
      exact this
    simp [h0]
  · have hp : 0 < ∑ i, e i := lt_of_le_of_ne (Finset.sum_nonneg fun i _ => he i) (Ne.symm hd)
    have hdiv : Ideal.div 1 (∑ i, e i) = (∑ i, e i)⁻¹ := by rw [Ideal.div, if_neg hd, one_mul]
    rw [hdiv]
    have h0 : (0 : EReal) ≤ (∑ i, e i)⁻¹ := EReal.inv_nonneg_of_nonneg hp.le
    have ht : (∑ i, e i)⁻¹ ≠ ⊤ := by
      intro h
      rcases eq_or_ne (∑ i, e i) ⊤ with h' | h'
      · rw [h', EReal.inv_top] at h; exact EReal.zero_ne_top h
      · lift (∑ i, e i) to ℝ using ⟨h', (EReal.bot_lt_zero.trans hp).ne'⟩ with r
        rw [← EReal.coe_inv] at h; exact EReal.coe_ne_top _ h
    rw [mul_comm, mul_sum _ _ h0 ht]
    refine Finset.sum_congr rfl fun i _ => ?_
    rw [mul_comm (e i) (v i), mul_comm, mul_assoc]

/-- Half of one plus the hyperbolic tangent of half the argument is the logistic function, the infinities included. -/
theorem half_tanh (z : EReal) :
    ((2⁻¹ : ℝ) : EReal) * (1 + Ideal.tanh (((2⁻¹ : ℝ) : EReal) * z)) = Ideal.div 1 (1 + Ideal.exp (-z)) := by
  have hh : (0 : ℝ) < 2⁻¹ := by norm_num
  induction z using EReal.rec with
  | bot =>
    rw [EReal.coe_mul_bot_of_pos hh, EReal.neg_bot]
    show ((2⁻¹ : ℝ) : EReal) * (1 + -1) = Ideal.div 1 (1 + ⊤)
    have h1 : (1 : EReal) + ⊤ = ⊤ := rfl
    have h2 : (1 : EReal) + -1 = 0 := by rw [← EReal.coe_one, ← EReal.coe_neg, ← EReal.coe_add]; simp
    rw [h1, h2, Ideal.div, if_neg EReal.top_ne_zero, EReal.inv_top, mul_zero, mul_zero]
  | top =>
    rw [EReal.coe_mul_top_of_pos hh, EReal.neg_top]
    show ((2⁻¹ : ℝ) : EReal) * (1 + 1) = Ideal.div 1 (1 + 0)
    rw [add_zero, Ideal.div, if_neg one_ne_zero, one_mul, ← EReal.coe_one, ← EReal.coe_add, ← EReal.coe_mul, ← EReal.coe_inv]
    norm_num
  | coe r =>
    rw [← EReal.coe_mul, ← EReal.coe_neg]
    show ((2⁻¹ : ℝ) : EReal) * (1 + ((Real.tanh (2⁻¹ * r) : ℝ) : EReal)) = Ideal.div 1 (1 + ((Real.exp (-r) : ℝ) : EReal))
    have hpos : (0 : ℝ) < 1 + Real.exp (-r) := by positivity
    have hne : ((1 : ℝ) : EReal) + ((Real.exp (-r) : ℝ) : EReal) ≠ 0 := by
      rw [← EReal.coe_add, ← EReal.coe_zero]; exact fun h => hpos.ne' (EReal.coe_injective h)
    rw [← EReal.coe_one, Ideal.div, if_neg hne, ← EReal.coe_add, ← EReal.coe_mul, ← EReal.coe_add, ← EReal.coe_inv,
      ← EReal.coe_mul]
    congr 1
    rw [Real.tanh_eq_sinh_div_cosh, Real.sinh_eq, Real.cosh_eq]
    have e1 : Real.exp (-r) = Real.exp (-(2⁻¹ * r)) * Real.exp (-(2⁻¹ * r)) := by rw [← Real.exp_add]; congr 1; ring
    have e2 : Real.exp (2⁻¹ * r) * Real.exp (-(2⁻¹ * r)) = 1 := by rw [← Real.exp_add]; simp
    rw [e1]
    generalize Real.exp (-(2⁻¹ * r)) = b at *
    have ha : 0 < Real.exp (2⁻¹ * r) := Real.exp_pos _
    generalize Real.exp (2⁻¹ * r) = a at *
    have hb : b = a⁻¹ := eq_inv_of_mul_eq_one_right e2
    subst hb
    field_simp
    ring

end Cert.Softmax

end
-- ==== Proof.Layer.lean ====
/-
The layer's output projection as mathematics: the output of layer `e` at row `i`, column `j`, from the outputs of the three
mixers. The Gaussian unit and the logistic function are in the forms both programs are brought to.
-/
module

public import Idealize.ShloMosaic.Lib.Pipeline.ValueKit
public import proofs.«01_k».proof.Proof.Softmax

@[expose] public section

noncomputable section

namespace Cert.Layer

open Idealize.ShloMosaic Idealize.ShloMosaic.TcCoe

/-- The constants of the body that are not read as bits. -/
theorem half : Ideal.ofBits .f32 0x3F000000#32 = ((2⁻¹ : ℝ) : EReal) := by
  simp [Ideal.ofBits, Ideal.ieee, -EReal.coe_mul]; norm_num

/-- The logistic function. -/
def sg (z : EReal) : EReal := Ideal.div 1 (1 + Ideal.exp (-z))

/-- The logistic function through the hyperbolic tangent. -/
theorem sg_eq (z : EReal) : Ideal.ofBits .f32 0x3F000000#32 * (1 + Ideal.tanh (Ideal.ofBits .f32 0x3F000000#32 * z)) = sg z := by
  rw [half, Softmax.half_tanh]; rfl

/-- The Gaussian unit, in its form through the hyperbolic tangent. -/
def gl (x : EReal) : EReal :=
  Ideal.ofBits .f32 0x3F000000#32 * x * (1 + Ideal.tanh (Ideal.ofBits .f32 0x3F4C422A#32 * (x + Ideal.ofBits .f32 0x3D372713#32 * (x * x * x))))

/-- The recurrence's output past the Gaussian unit, lane `a` of row `i`. -/
def g (y : Vec Ideal ⟨3, ![4, 16384, 128]⟩ .f32) (i : Fin 16384) (a : Fin 512) : EReal :=
  gl (y (ix3 ⟨a / 128, by omega⟩ i ⟨a % 128, by omega⟩))

/-- The gate of the recurrence's output, before the logistic function. -/
def gate (e : Fin 2) (y : Vec Ideal ⟨3, ![4, 16384, 128]⟩ .f32) (gw : Vec Ideal ⟨3, ![2, 512, 512]⟩ .f32) (gb : Vec Ideal ⟨3, ![2, 1, 512]⟩ .f32) (i : Fin 16384) (a : Fin 512) : EReal :=
  ∑ b : Fin 512, g y i b * gw (ix3 e b a) + gb (ix3 e 0 a)

/-- The recurrence's branch: its output past the unit, gated twice. -/
def ya (e : Fin 2) (y : Vec Ideal ⟨3, ![4, 16384, 128]⟩ .f32) (p : Vec Ideal ⟨2, ![16384, 5120]⟩ .bf16) (gw : Vec Ideal ⟨3, ![2, 512, 512]⟩ .f32) (gb : Vec Ideal ⟨3, ![2, 1, 512]⟩ .f32)
    (i : Fin 16384) (a : Fin 512) : EReal :=
  g y i a * sg (gate e y gw gb i a) * (p (ix2 i ⟨512 + a, by omega⟩) * sg (p (ix2 i ⟨512 + a, by omega⟩)))

/-- The residual stream after the layer. -/
def xx (e : Fin 2) (y : Vec Ideal ⟨3, ![4, 16384, 128]⟩ .f32) (p : Vec Ideal ⟨2, ![16384, 5120]⟩ .bf16) (yb yc : Vec Ideal ⟨2, ![16384, 512]⟩ .bf16) (x : Vec Ideal ⟨2, ![16384, 1024]⟩ .f32)
    (w : Vec Ideal ⟨3, ![2, 1536, 1024]⟩ .f32) (gw : Vec Ideal ⟨3, ![2, 512, 512]⟩ .f32) (gb : Vec Ideal ⟨3, ![2, 1, 512]⟩ .f32) (i : Fin 16384) (j : Fin 1024) : EReal :=
  x (ix2 i j) + (∑ a : Fin 512, ya e y p gw gb i a * w (ix3 e ⟨a, by omega⟩ j) + ∑ a : Fin 512, yb (ix2 i a) * w (ix3 e ⟨512 + a, by omega⟩ j)
    + ∑ a : Fin 512, yc (ix2 i a) * w (ix3 e ⟨1024 + a, by omega⟩ j))

/-- The unit as it is written with its factor in the middle. -/
theorem gl_eq (x : EReal) : x * (Ideal.ofBits .f32 0x3F000000#32
    * (1 + Ideal.tanh (Ideal.ofBits .f32 0x3F4C422A#32 * (x + Ideal.ofBits .f32 0x3D372713#32 * (x * x * x))))) = gl x := by
  rw [gl, mul_left_comm, ← mul_assoc]

/-- A sum over the three branches side by side. -/
theorem sum_mix (f : Fin 1536 → EReal) : ∑ a, f a
    = ∑ a : Fin 512, f ⟨a, by omega⟩ + ∑ a : Fin 512, f ⟨512 + a, by omega⟩ + ∑ a : Fin 512, f ⟨1024 + a, by omega⟩ := by
  refine (Fin.sum_univ_add (a := 1024) (b := 512) f).trans (congrArg₂ (· + ·) ?_ rfl)
  exact Fin.sum_univ_add (a := 512) (b := 512) fun a => f ⟨a, by omega⟩

/-- The contraction of the three branches side by side is the sum of the three contractions. -/
theorem mix_eq (e : Fin 2) (y : Vec Ideal ⟨3, ![4, 16384, 128]⟩ .f32) (p : Vec Ideal ⟨2, ![16384, 5120]⟩ .bf16) (yb yc : Vec Ideal ⟨2, ![16384, 512]⟩ .bf16) (x : Vec Ideal ⟨2, ![16384, 1024]⟩ .f32)
    (w : Vec Ideal ⟨3, ![2, 1536, 1024]⟩ .f32) (gw : Vec Ideal ⟨3, ![2, 512, 512]⟩ .f32) (gb : Vec Ideal ⟨3, ![2, 1, 512]⟩ .f32) (i : Fin 16384) (k : Fin 1024)
    (A : ∀ a : Fin 1536, (a : ℕ) < 512 → EReal) (hA : ∀ (a : Fin 1536) (h : (a : ℕ) < 512), A a h = ya e y p gw gb i ⟨a, h⟩) :
    x (ix2 i k) + ∑ a : Fin 1536, (if h : (a : ℕ) < 512 then A a h
        else if h : (a : ℕ) - 512 < 512 then yb (ix2 i ⟨(a : ℕ) - 512, h⟩) else yc (ix2 i ⟨(a : ℕ) - 512 - 512, by omega⟩)) * w (ix3 e a k)
      = xx e y p yb yc x w gw gb i k := by
  rw [sum_mix, xx]
  refine congrArg₂ (· + ·) rfl (congrArg₂ (· + ·) (congrArg₂ (· + ·) ?_ ?_) ?_) <;> refine Fintype.sum_congr _ _ fun a => congrArg₂ (· * ·) ?_ rfl
  · rw [dif_pos a.isLt, hA _ a.isLt]
  · rw [dif_neg (by simp), dif_pos (by simp)]
    exact congrArg (fun b => yb (ix2 i b)) (Fin.ext (by simp))
  · rw [dif_neg (by simp; omega), dif_neg (by simp; omega)]
    exact congrArg (fun b => yc (ix2 i b)) (Fin.ext (by simp; omega))

end Cert.Layer

end
-- ==== Proof.OutProj.lean ====
/-
The output projection of the last layer with the last normalisation: kernel and reference both end with the normalised
residual stream. The kernel copies the layer's weights to scratch at its first point and holds them from then on.
-/
module

public import proofs.«01_k».proof.Proof.Gen.Kernel4Ideal.Value
public import proofs.«01_k».proof.Proof.Gen.Reference4Ideal.Run
public import proofs.«01_k».proof.Proof.Layer
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Kernel4Ideal.OutProj

open Idealize.ShloMosaic Idealize.ShloMosaic.TcCoe Idealize.SL.Sem Cert.Kernel4Ideal Cert.Kernel4Ideal.Gen Cert.Layer

variable (m : (ℓ : Loc nD τ sig) → Buf (Elt Ideal) ℓ)

def out (y : Vec Ideal S4x16384x128 .f32) (p : Vec Ideal S16384x5120 .bf16) (yb yc : Vec Ideal S16384x512 .bf16) (x : Vec Ideal S16384x1024 .f32)
    (w : Vec Ideal S2x1536x1024 .f32) (gw : Vec Ideal S2x512x512 .f32) (gb : Vec Ideal S2x1x512 .f32) (fg : Vec Ideal S1x1x1024 .f32)
    (i : Fin 16384) (j : Fin 1024) : EReal :=
  xx 1 y p yb yc x w gw gb i j
    * Ideal.rsqrt (Ideal.div (∑ k : Fin 1024, xx 1 y p yb yc x w gw gb i k * xx 1 y p yb yc x w gw gb i k) (Ideal.ofBits .f32 0x44800000#32)
      + Ideal.ofBits .f32 0x358637BD#32) * fg (ix3 0 0 j)

theorem idx : ∀ t : Fin cfg0.N, win0_0.index t = ![0, t.val, 0] ∧ win0_1.index t = ![t.val, 1] ∧ win0_2.index t = ![t.val, 0]
    ∧ win0_3.index t = ![t.val, 0] ∧ win0_4.index t = ![t.val, 0] ∧ win0_5.index t = ![1, 0, 0] ∧ win0_6.index t = ![1, 0, 0]
    ∧ win0_7.index t = ![1, 0, 0] ∧ win0_8.index t = ![0, 0, 0] ∧ win0_9.index t = ![t.val, 0] :=
  (by decide +kernel : ∀ t : Fin grid0.N, _)

abbrev row (t : Fin cfg0.N) (i : Fin 1024) : Fin 16384 :=
  ⟨1024 * t.val + i, by have := t.isLt; have : cfg0.N = 16 := N_0; omega⟩

/-- The first payload, of the four slabs of the point. -/
abbrev pg (x0 : Vec Ideal S4x1024x128 .f32) : FVec Ideal S1024x512 .f32 :=
  k0_pay6 (View.ld x0 (Rect.unit ![0, 0, 0] ![1, 1024, 128] inb_S4x1024x128_S1x1024x128_0_0_0))
    (View.ld x0 (Rect.unit ![1, 0, 0] ![1, 1024, 128] inb_S4x1024x128_S1x1024x128_1_0_0))
    (View.ld x0 (Rect.unit ![2, 0, 0] ![1, 1024, 128] inb_S4x1024x128_S1x1024x128_2_0_0))
    (View.ld x0 (Rect.unit ![3, 0, 0] ![1, 1024, 128] inb_S4x1024x128_S1x1024x128_3_0_0))

abbrev pgate (x0 : Vec Ideal S4x1024x128 .f32) (Gw : Vec Ideal S512x512 .bf16) (x7 : Vec Ideal S1x1x512 .f32) : FVec Ideal S1024x512 .f32 :=
  k0_pay7 (View.ld x0 (Rect.unit ![0, 0, 0] ![1, 1024, 128] inb_S4x1024x128_S1x1024x128_0_0_0))
    (View.ld x0 (Rect.unit ![1, 0, 0] ![1, 1024, 128] inb_S4x1024x128_S1x1024x128_1_0_0))
    (View.ld x0 (Rect.unit ![2, 0, 0] ![1, 1024, 128] inb_S4x1024x128_S1x1024x128_2_0_0))
    (View.ld x0 (Rect.unit ![3, 0, 0] ![1, 1024, 128] inb_S4x1024x128_S1x1024x128_3_0_0)) Gw x7

abbrev pxx (x0 : Vec Ideal S4x1024x128 .f32) (x1 : Vec Ideal S1024x512 .bf16) (x2 x3 : Vec Ideal S1024x512 .bf16) (x4 : Vec Ideal S1024x1024 .f32)
    (x7 : Vec Ideal S1x1x512 .f32) (W : Vec Ideal S1536x1024 .bf16) (Gw : Vec Ideal S512x512 .bf16) : FVec Ideal S1024x1024 .f32 :=
  k0_pay9 (pg x0) (pgate x0 Gw x7) k0_pay8 x1 (View.ld W (Rect.unit ![0, 0] ![512, 1024] inb_S1536x1024_S512x1024_0_0)) x2
    (View.ld W (Rect.unit ![512, 0] ![512, 1024] inb_S1536x1024_S512x1024_512_0)) x3
    (View.ld W (Rect.unit ![1024, 0] ![512, 1024] inb_S1536x1024_S512x1024_1024_0)) x4

abbrev pout (x0 : Vec Ideal S4x1024x128 .f32) (x1 : Vec Ideal S1024x512 .bf16) (x2 x3 : Vec Ideal S1024x512 .bf16) (x4 : Vec Ideal S1024x1024 .f32)
    (x7 : Vec Ideal S1x1x512 .f32) (x8 : Vec Ideal S1x1x1024 .f32) (W : Vec Ideal S1536x1024 .bf16) (Gw : Vec Ideal S512x512 .bf16) :
    FVec Ideal S1024x1024 .f32 :=
  k0_pay1 (pxx x0 x1 x2 x3 x4 x7 W Gw)
    (k0_pay10 (pg x0) (pgate x0 Gw x7) k0_pay8 x1 (View.ld W (Rect.unit ![0, 0] ![512, 1024] inb_S1536x1024_S512x1024_0_0)) x2
      (View.ld W (Rect.unit ![512, 0] ![512, 1024] inb_S1536x1024_S512x1024_512_0)) x3
      (View.ld W (Rect.unit ![1024, 0] ![512, 1024] inb_S1536x1024_S512x1024_1024_0)) x4) x8

section Blocks

variable (y : Vec Ideal S4x16384x128 .f32) (p : Vec Ideal S16384x5120 .bf16) (yb yc : Vec Ideal S16384x512 .bf16) (x : Vec Ideal S16384x1024 .f32)
  (w : Vec Ideal S2x1536x1024 .f32) (gw : Vec Ideal S2x512x512 .f32) (gb : Vec Ideal S2x1x512 .f32) (fg : Vec Ideal S1x1x1024 .f32)
  (e : Fin 2) (i : Fin 1024) (r : Fin 16384)
  (x0 : Vec Ideal S4x1024x128 .f32) (x1 x2 x3 : Vec Ideal S1024x512 .bf16) (x4 : Vec Ideal S1024x1024 .f32) (x7 : Vec Ideal S1x1x512 .f32)
  (x8 : Vec Ideal S1x1x1024 .f32) (W : Vec Ideal S1536x1024 .bf16) (Gw : Vec Ideal S512x512 .bf16)

/-- The unit's payload at row `i` of a block that is row `r` of the array. -/
theorem pg_of (h0 : ∀ (s : Fin 4) (a : Fin 128), x0 (ix3 s i a) = y (ix3 s r a)) (a : Fin 512) : pg x0 (ix2 i a) = g y r a := by
  pointwise [k0_pay6, g, gl]
  simp only [← h0]
  blk_point []

theorem pgate_of (h0 : ∀ (s : Fin 4) (a : Fin 128), x0 (ix3 s i a) = y (ix3 s r a))
    (hG : ∀ a b : Fin 512, Gw (ix2 a b) = gw (ix3 e a b)) (h7 : ∀ a : Fin 512, x7 (ix3 0 0 a) = gb (ix3 e 0 a)) (a : Fin 512) :
    pgate x0 Gw x7 (ix2 i a) = gate e y gw gb r a := by
  pointwise [k0_pay7, gate]
  exact congrArg₂ (· + ·) (Fintype.sum_congr _ _ fun b => congrArg₂ (· * ·) (pg_of y i r x0 h0 b) (hG b a)) (h7 a)

theorem pxx_of (h0 : ∀ (s : Fin 4) (a : Fin 128), x0 (ix3 s i a) = y (ix3 s r a))
    (h1 : ∀ a : Fin 512, x1 (ix2 i a) = p (ix2 r ⟨512 + a, by omega⟩)) (h2 : ∀ a : Fin 512, x2 (ix2 i a) = yb (ix2 r a))
    (h3 : ∀ a : Fin 512, x3 (ix2 i a) = yc (ix2 r a)) (h4 : ∀ j : Fin 1024, x4 (ix2 i j) = x (ix2 r j))
    (h7 : ∀ a : Fin 512, x7 (ix3 0 0 a) = gb (ix3 e 0 a))
    (hW : ∀ (a : Fin 1536) (b : Fin 1024), W (ix2 a b) = w (ix3 e a b)) (hG : ∀ a b : Fin 512, Gw (ix2 a b) = gw (ix3 e a b)) (j : Fin 1024) :
    pxx x0 x1 x2 x3 x4 x7 W Gw (ix2 i j) = xx e y p yb yc x w gw gb r j := by
  pointwise [k0_pay9, k0_pay8]
  refine congrArg₂ (· + ·) (h4 j) (congrArg₂ (· + ·) (congrArg₂ (· + ·) ?_ ?_) ?_) <;> refine Fintype.sum_congr _ _ fun a => ?_
  · rw [sg_eq, sg_eq, pg_of y i r x0 h0, pgate_of y gw gb e i r x0 x7 Gw h0 hG h7, hW, h1]; rfl
  · rw [hW, h2]
  · rw [hW, h3]

theorem pout_of (hx : ∀ j, pxx x0 x1 x2 x3 x4 x7 W Gw (ix2 i j) = xx 1 y p yb yc x w gw gb r j)
    (h8 : ∀ j : Fin 1024, x8 (ix3 0 0 j) = fg (ix3 0 0 j)) (j : Fin 1024) :
    pout x0 x1 x2 x3 x4 x7 x8 W Gw (ix2 i j) = out y p yb yc x w gw gb fg r j := by
  pointwise [k0_pay1, k0_pay10]
  rw [h8]
  exact congrArg₂ (· * ·) (congrArg₂ (· * ·) (hx j) (congrArg Ideal.rsqrt (congrArg₂ (· + ·) (congrArg₂ Ideal.div (Fintype.sum_congr _ _ fun k =>
    congrArg₂ (· * ·) (hx k) (hx k)) rfl) rfl))) rfl

end Blocks

variable (W : Vec Ideal S1536x1024 .bf16) (Gw : Vec Ideal S512x512 .bf16)

/-- The point's payload, read off the arrays. -/
theorem pout_at (c : Dev nD) (t : Fin cfg0.N) (hG : ∀ a b : Fin 512, Gw (ix2 a b) = m ((c : Thread nD τ).loc main_arg6) (ix3 1 a b))
    (hW : ∀ (a : Fin 1536) (b : Fin 1024), W (ix2 a b) = m ((c : Thread nD τ).loc main_arg5) (ix3 1 a b)) (i : Fin 1024) (j : Fin 1024) :
    pout (iblk m c 0 t) (iblk m c 1 t) (iblk m c 2 t) (iblk m c 3 t) (iblk m c 4 t) (iblk m c 7 t) (iblk m c 8 t) W Gw (ix2 i j)
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) j := by
  refine pout_of _ _ _ _ _ _ _ _ _ i (row t i) _ _ _ _ _ _ _ W Gw
    (pxx_of _ _ _ _ _ _ _ _ 1 i (row t i) _ _ _ _ _ _ W Gw (fun s a => ?_) (fun a => ?_) (fun a => ?_) (fun a => ?_) (fun j => ?_) (fun a => ?_) hW hG)
    (fun j => ?_) j
  all_goals blk_point [iblk, V, idx t]

theorem out_A (c : Dev nD) (t : Fin cfg0.N) (h0 : t.val % 16 = 0)
    (hW : (outsAt0 m c t.val t.isLt).2.1 = W) (hG : (outsAt0 m c t.val t.isLt).2.2 = Gw) :
    (outsAt0 m c t.val t.isLt).1 = pout (iblk m c 0 t) (iblk m c 1 t) (iblk m c 2 t) (iblk m c 3 t) (iblk m c 4 t) (iblk m c 7 t) (iblk m c 8 t) W Gw := by
  rw [outsAt0_A m c t h0] at hW hG ⊢
  frame_out at hW
  frame_out at hG
  frame_out
  simp only [View.readCov_eq_canon', hW, hG]
  try rfl

theorem out_B (c : Dev nD) (t : Fin cfg0.N) (h0 : ¬ t.val % 16 = 0)
    (hW : (outsAt0 m c (t.val - 1) (Nat.lt_of_le_of_lt (Nat.sub_le _ _) t.isLt)).2.1 = W) (hG : (outsAt0 m c (t.val - 1) (Nat.lt_of_le_of_lt (Nat.sub_le _ _) t.isLt)).2.2 = Gw) :
    (outsAt0 m c t.val t.isLt).1 = pout (iblk m c 0 t) (iblk m c 1 t) (iblk m c 2 t) (iblk m c 3 t) (iblk m c 4 t) (iblk m c 7 t) (iblk m c 8 t) W Gw := by
  rw [outsAt0_B m c t h0]
  frame_out
  rw [hW, hG]
  simp only [read_unread_whole]

theorem held5 (c : Dev nD) (t : Fin cfg0.N) (i : S1536x1024.Idx) :
    (outsAt0 m c t.val t.isLt).2.1 i = m ((c : Thread nD τ).loc main_arg5) (ix3 1 (i 0) (i 1)) := by
  refine Pipeline.eq_of_write_hold_apply (fun n h => (outsAt0 m c n h).2.1) 16 (fun t i => m ((c : Thread nD τ).loc main_arg5) (ix3 1 (i 0) (i 1))) ?_ ?_ t i
  · intro t h0 i
    rw [outsAt0_A m c t h0]
    frame_out
    canon_tiles x h
    all_goals (open_payloads; pointwise; blk_point [iblk, V, idx t])
  · intro t h0 i
    rw [outsAt0_B m c t h0]
    rfl

theorem held6 (c : Dev nD) (t : Fin cfg0.N) (i : S512x512.Idx) :
    (outsAt0 m c t.val t.isLt).2.2 i = m ((c : Thread nD τ).loc main_arg6) (ix3 1 (i 0) (i 1)) := by
  refine Pipeline.eq_of_write_hold_apply (fun n h => (outsAt0 m c n h).2.2) 16 (fun t i => m ((c : Thread nD τ).loc main_arg6) (ix3 1 (i 0) (i 1))) ?_ ?_ t i
  · intro t h0 i
    rw [outsAt0_A m c t h0]
    frame_out
    pointwise [k0_pay5]
    blk_point [iblk, V, idx t]
  · intro t h0 i
    rw [outsAt0_B m c t h0]
    rfl

theorem point (c : Dev nD) (t : Fin cfg0.N) (i j : Fin 1024) :
    (outsAt0 m c t.val t.isLt).1 (ix2 i j)
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t i) j := by
  by_cases h0 : t.val % 16 = 0
  · rw [out_A m _ _ c t h0 rfl rfl]
    exact pout_at m _ _ c t (fun a b => held6 m c t (ix2 a b)) (fun a b => held5 m c t (ix2 a b)) i j
  · rw [out_B m _ _ c t h0 rfl rfl]
    exact pout_at m _ _ c t (fun a b => held6 m c ⟨t.val - 1, Nat.lt_of_le_of_lt (Nat.sub_le _ _) t.isLt⟩ (ix2 a b))
      (fun a b => held5 m c ⟨t.val - 1, Nat.lt_of_le_of_lt (Nat.sub_le _ _) t.isLt⟩ (ix2 a b)) i j

/-- The layer's output, as the kernel leaves it. -/
theorem final (c : Dev nD) : (dats m 0 c).arrAt 9 cfg0.N
    = fun j : S16384x1024.Idx => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (j 0) (j 1) := by
  refine (dats m 0 c).arrAt_eq_of_covers 9 _ (by decide +kernel) fun t hf y => ?_
  blk_simp
  rw [after0_9]
  obtain ⟨i, l, rfl⟩ : ∃ (i : Fin 1024) (l : Fin 1024), y = ix2 i l := ⟨y 0, y 1, by funext a; fin_cases a <;> rfl⟩
  refine (point m c t i l).trans ?_
  congr 1 <;> refine Fin.ext ?_
  · blk_simp [idx t]
    show 1024 * t.val + (i : ℕ) = t.val * 1024 + (i : ℕ)
    omega
  · blk_simp [idx t]

end Cert.Kernel4Ideal.OutProj

namespace Cert.Reference4Ideal

open Idealize.ShloMosaic Idealize.ShloMosaic.TcCoe Idealize.SL.Sem Cert.Kernel4Ideal.OutProj Cert.Layer

variable (m : (ℓ : Loc nD τ sig) → Buf (Elt Ideal) ℓ) (ρ : Dev nD → PrngReg)

set_option maxHeartbeats 1000000 in
theorem res_eq (c : Dev nD) : Value.res_main_v52 (F := Ideal) m c
    = fun j : S16384x1024.Idx => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (j 0) (j 1) := by
  funext j
  obtain ⟨i, l, rfl⟩ : ∃ (i : Fin 16384) (l : Fin 1024), j = ix2 i l := ⟨j 0, j 1, by funext a; fin_cases a <;> rfl⟩
  show _ = out _ _ _ _ _ _ _ _ _ i l
  have hm := fun k => mix_eq 1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i k
  pointwise [Value.res_main_v52, out]
  simp only [gl_eq]
  refine congrArg₂ (· * ·) (congrArg₂ (· * ·) (hm l _ ?_) (congrArg Ideal.rsqrt (congrArg₂ (· + ·) (congrArg₂ Ideal.div (Fintype.sum_congr _ _ fun k =>
    congrArg₂ (· * ·) (hm k _ ?_) (hm k _ ?_)) rfl) rfl))) rfl
  all_goals
    intro a h
    rfl

end Cert.Reference4Ideal

end
-- ==== Proof.OutProj0.lean ====
/-
The output projection of the first layer: kernel and reference both end with the residual stream after the layer. The body is
the one of `OutProj.lean` without the last normalisation, so its payload is read there.
-/
module

public import proofs.«01_k».proof.Proof.Gen.Kernel5Ideal.Value
public import proofs.«01_k».proof.Proof.Gen.Reference5Ideal.Run
public import proofs.«01_k».proof.Proof.OutProj

@[expose] public section

set_option maxRecDepth 16384

noncomputable section

namespace Cert.Kernel5Ideal.OutProj

open Idealize.ShloMosaic Idealize.ShloMosaic.TcCoe Idealize.SL.Sem Cert.Kernel5Ideal Cert.Kernel5Ideal.Gen Cert.Layer

variable (m : (ℓ : Loc nD τ sig) → Buf (Elt Ideal) ℓ)

theorem idx : ∀ t : Fin cfg0.N, win0_0.index t = ![0, t.val, 0] ∧ win0_1.index t = ![t.val, 1] ∧ win0_2.index t = ![t.val, 0]
    ∧ win0_3.index t = ![t.val, 0] ∧ win0_4.index t = ![t.val, 0] ∧ win0_5.index t = ![0, 0, 0] ∧ win0_6.index t = ![0, 0, 0]
    ∧ win0_7.index t = ![0, 0, 0] ∧ win0_8.index t = ![0, 0, 0] ∧ win0_9.index t = ![t.val, 0] :=
  (by decide +kernel : ∀ t : Fin grid0.N, _)

abbrev row (t : Fin cfg0.N) (i : Fin 1024) : Fin 16384 :=
  ⟨1024 * t.val + i, by have := t.isLt; have : cfg0.N = 16 := N_0; omega⟩

/-- The payload of the point, of the blocks it loads and the weights it holds. -/
abbrev pxx (x0 : Vec Ideal S4x1024x128 .f32) (x1 : Vec Ideal S1024x512 .bf16) (x2 x3 : Vec Ideal S1024x512 .bf16) (x4 : Vec Ideal S1024x1024 .f32)
    (x7 : Vec Ideal S1x1x512 .f32) (W : Vec Ideal S1536x1024 .bf16) (Gw : Vec Ideal S512x512 .bf16) : FVec Ideal S1024x1024 .f32 :=
  k0_pay1
    (k0_pay6 (View.ld x0 (Rect.unit ![0, 0, 0] ![1, 1024, 128] inb_S4x1024x128_S1x1024x128_0_0_0))
      (View.ld x0 (Rect.unit ![1, 0, 0] ![1, 1024, 128] inb_S4x1024x128_S1x1024x128_1_0_0))
      (View.ld x0 (Rect.unit ![2, 0, 0] ![1, 1024, 128] inb_S4x1024x128_S1x1024x128_2_0_0))
      (View.ld x0 (Rect.unit ![3, 0, 0] ![1, 1024, 128] inb_S4x1024x128_S1x1024x128_3_0_0)))
    (k0_pay7 (View.ld x0 (Rect.unit ![0, 0, 0] ![1, 1024, 128] inb_S4x1024x128_S1x1024x128_0_0_0))
      (View.ld x0 (Rect.unit ![1, 0, 0] ![1, 1024, 128] inb_S4x1024x128_S1x1024x128_1_0_0))
      (View.ld x0 (Rect.unit ![2, 0, 0] ![1, 1024, 128] inb_S4x1024x128_S1x1024x128_2_0_0))
      (View.ld x0 (Rect.unit ![3, 0, 0] ![1, 1024, 128] inb_S4x1024x128_S1x1024x128_3_0_0)) Gw x7)
    k0_pay8 x1 (View.ld W (Rect.unit ![0, 0] ![512, 1024] inb_S1536x1024_S512x1024_0_0)) x2
    (View.ld W (Rect.unit ![512, 0] ![512, 1024] inb_S1536x1024_S512x1024_512_0)) x3
    (View.ld W (Rect.unit ![1024, 0] ![512, 1024] inb_S1536x1024_S512x1024_1024_0)) x4

variable (W : Vec Ideal S1536x1024 .bf16) (Gw : Vec Ideal S512x512 .bf16)

/-- The point's payload, read off the arrays. -/
theorem pxx_at (c : Dev nD) (t : Fin cfg0.N) (hG : ∀ a b : Fin 512, Gw (ix2 a b) = m ((c : Thread nD τ).loc main_arg6) (ix3 0 a b))
    (hW : ∀ (a : Fin 1536) (b : Fin 1024), W (ix2 a b) = m ((c : Thread nD τ).loc main_arg5) (ix3 0 a b)) (i : Fin 1024) (j : Fin 1024) :
    pxx (iblk m c 0 t) (iblk m c 1 t) (iblk m c 2 t) (iblk m c 3 t) (iblk m c 4 t) (iblk m c 7 t) W Gw (ix2 i j)
      = xx 0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (row t i) j := by
  refine Cert.Kernel4Ideal.OutProj.pxx_of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 0 i (row t i) (iblk m c 0 t) (iblk m c 1 t) (iblk m c 2 t) (iblk m c 3 t) (iblk m c 4 t) (iblk m c 7 t) W Gw
    (fun s a => ?_) (fun a => ?_) (fun a => ?_) (fun a => ?_) (fun j => ?_) (fun a => ?_) hW hG j
  all_goals blk_point [iblk, V, idx t]

theorem out_A (c : Dev nD) (t : Fin cfg0.N) (h0 : t.val % 16 = 0)
    (hW : (outsAt0 m c t.val t.isLt).2.1 = W) (hG : (outsAt0 m c t.val t.isLt).2.2 = Gw) :
    (outsAt0 m c t.val t.isLt).1 = pxx (iblk m c 0 t) (iblk m c 1 t) (iblk m c 2 t) (iblk m c 3 t) (iblk m c 4 t) (iblk m c 7 t) W Gw := by
  rw [outsAt0_A m c t h0] at hW hG ⊢
  frame_out at hW
  frame_out at hG
  frame_out
  simp only [View.readCov_eq_canon', hW, hG]
  try rfl

theorem out_B (c : Dev nD) (t : Fin cfg0.N) (h0 : ¬ t.val % 16 = 0)
    (hW : (outsAt0 m c (t.val - 1) (Nat.lt_of_le_of_lt (Nat.sub_le _ _) t.isLt)).2.1 = W) (hG : (outsAt0 m c (t.val - 1) (Nat.lt_of_le_of_lt (Nat.sub_le _ _) t.isLt)).2.2 = Gw) :
    (outsAt0 m c t.val t.isLt).1 = pxx (iblk m c 0 t) (iblk m c 1 t) (iblk m c 2 t) (iblk m c 3 t) (iblk m c 4 t) (iblk m c 7 t) W Gw := by
  rw [outsAt0_B m c t h0]
  frame_out
  rw [hW, hG]
  simp only [read_unread_whole]

theorem held5 (c : Dev nD) (t : Fin cfg0.N) (i : S1536x1024.Idx) :
    (outsAt0 m c t.val t.isLt).2.1 i = m ((c : Thread nD τ).loc main_arg5) (ix3 0 (i 0) (i 1)) := by
  refine Pipeline.eq_of_write_hold_apply (fun n h => (outsAt0 m c n h).2.1) 16 (fun t i => m ((c : Thread nD τ).loc main_arg5) (ix3 0 (i 0) (i 1))) ?_ ?_ t i
  · intro t h0 i
    rw [outsAt0_A m c t h0]
    frame_out
    canon_tiles x h
    all_goals (open_payloads; pointwise; blk_point [iblk, V, idx t])
  · intro t h0 i
    rw [outsAt0_B m c t h0]
    rfl

theorem held6 (c : Dev nD) (t : Fin cfg0.N) (i : S512x512.Idx) :
    (outsAt0 m c t.val t.isLt).2.2 i = m ((c : Thread nD τ).loc main_arg6) (ix3 0 (i 0) (i 1)) := by
  refine Pipeline.eq_of_write_hold_apply (fun n h => (outsAt0 m c n h).2.2) 16 (fun t i => m ((c : Thread nD τ).loc main_arg6) (ix3 0 (i 0) (i 1))) ?_ ?_ t i
  · intro t h0 i
    rw [outsAt0_A m c t h0]
    frame_out
    pointwise [k0_pay5]
    blk_point [iblk, V, idx t]
  · intro t h0 i
    rw [outsAt0_B m c t h0]
    rfl

theorem point (c : Dev nD) (t : Fin cfg0.N) (i j : Fin 1024) :
    (outsAt0 m c t.val t.isLt).1 (ix2 i j)
      = xx 0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (row t i) j := by
  by_cases h0 : t.val % 16 = 0
  · rw [out_A m _ _ c t h0 rfl rfl]
    exact pxx_at m _ _ c t (fun a b => held6 m c t (ix2 a b)) (fun a b => held5 m c t (ix2 a b)) i j
  · rw [out_B m _ _ c t h0 rfl rfl]
    exact pxx_at m _ _ c t (fun a b => held6 m c ⟨t.val - 1, Nat.lt_of_le_of_lt (Nat.sub_le _ _) t.isLt⟩ (ix2 a b))
      (fun a b => held5 m c ⟨t.val - 1, Nat.lt_of_le_of_lt (Nat.sub_le _ _) t.isLt⟩ (ix2 a b)) i j

/-- The stream after the layer, as the kernel leaves it. -/
theorem final (c : Dev nD) : (dats m 0 c).arrAt 9 cfg0.N
    = fun j : S16384x1024.Idx => xx 0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (j 0) (j 1) := by
  refine (dats m 0 c).arrAt_eq_of_covers 9 _ (by decide +kernel) fun t hf y => ?_
  blk_simp
  rw [after0_9]
  obtain ⟨i, l, rfl⟩ : ∃ (i : Fin 1024) (l : Fin 1024), y = ix2 i l := ⟨y 0, y 1, by funext a; fin_cases a <;> rfl⟩
  refine (point m c t i l).trans ?_
  congr 1 <;> refine Fin.ext ?_
  · blk_simp [idx t]
    show 1024 * t.val + (i : ℕ) = t.val * 1024 + (i : ℕ)
    omega
  · blk_simp [idx t]

end Cert.Kernel5Ideal.OutProj

namespace Cert.Reference5Ideal

open Idealize.ShloMosaic Idealize.ShloMosaic.TcCoe Idealize.SL.Sem Cert.Layer

variable (m : (ℓ : Loc nD τ sig) → Buf (Elt Ideal) ℓ)

/-- The stream after the layer, as the reference leaves it. -/
theorem res_eq (c : Dev nD) : Value.res_main_v39 (F := Ideal) m c
    = fun j : S16384x1024.Idx => xx 0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (j 0) (j 1) := by
  funext j
  obtain ⟨i, l, rfl⟩ : ∃ (i : Fin 16384) (l : Fin 1024), j = ix2 i l := ⟨j 0, j 1, by funext a; fin_cases a <;> rfl⟩
  show _ = xx _ _ _ _ _ _ _ _ _ i l
  have hm := mix_eq 0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i l
  pointwise [Value.res_main_v39]
  simp only [gl_eq]
  refine hm _ ?_
  intro a h
  rfl

end Cert.Reference5Ideal

end
-- ==== Proof.NaRow.lean ====
/-
The neighbourhood attention: the pieces a row's tile is made of, read at an index.
-/
module

public import proofs.«01_k».proof.Proof.Gen.KernelIdeal.Value
public import proofs.«01_k».proof.Proof.Softmax
public import Idealize.ShloMosaic.Lib.Pipeline.ValueKit
public import Idealize.ShloMosaic.Lib.MatmulPlain

@[expose] public section

set_option maxRecDepth 16384

noncomputable section

namespace Cert.KernelIdeal.NA

open Idealize.ShloMosaic Idealize.ShloMosaic.TcCoe Idealize.SL.Sem Cert.KernelIdeal Cert.KernelIdeal.Gen

variable {N N' : ℕ}

/-- The extents of the pieces of a stack before piece `n`, added up. -/
abbrev before {α : Type} (K : ℕ) (n : ℕ) (L : List ((s : Shape) × (s.Idx → α))) : ℕ :=
  (((L.take n).map (·.1)).map fun s => if h : s.rank = (⟨2, ![N, K]⟩ : Shape).rank then s.size ((0 : Fin 2).cast h.symm) else 0).sum

/-- Rows `o` to `o + 63` of a stack of tiles of 64 rows are its tile number `o / 64`. -/
theorem stack_apply {α : Type} {K o : ℕ} {L : List ((s : Shape) × (s.Idx → α))}
    {h : Shape.Concatenates (L.map (·.1)) ⟨2, ![N, K]⟩ 0} {A : (⟨2, ![64, K]⟩ : Shape).Idx → α}
    (hL : L[o / 64]? = some ⟨⟨2, ![64, K]⟩, A⟩) (hpre : before (N := N) K (o / 64) L = o)
    (i : Fin 64) (k : Fin K) (hi : o + i < N) :
    concatenate ⟨2, ![N, K]⟩ 0 L h (ix2 ⟨o + i, hi⟩ k) = A (ix2 i k) := by
  have hk : o / 64 < L.length := (List.getElem?_eq_some_iff.1 hL).1
  have hx : L[o / 64] = ⟨⟨2, ![64, K]⟩, A⟩ := (List.getElem?_eq_some_iff.1 hL).2
  refine concatenate_apply_piece 0 L h _ (o / 64) hk ⟨2, ![64, K]⟩ A hx rfl o hpre (ix2 i k) (fun b hb => ?_) rfl
  fin_cases b
  · exact absurd rfl hb
  · rfl

theorem slice_apply {α : Type} {M o : ℕ} (X : (⟨2, ![N, M]⟩ : Shape).Idx → α)
    (hs : (⟨2, ![N, M]⟩ : Shape).Slices ![o, 0] ⟨2, ![64, M]⟩) (a : Fin 64) (b : Fin M) (ho : o + a < N) :
    extractStridedSlice (s := ⟨2, ![N, M]⟩) ⟨2, ![64, M]⟩ ![o, 0] X hs (ix2 a b) = X (ix2 ⟨o + a, ho⟩ b) := by
  refine congrArg X ?_
  funext c; fin_cases c
  · rfl
  · exact Fin.ext (Nat.zero_add _)

theorem zero_apply (s : Shape) (i : s.Idx) : constant (F := Ideal) s .f32 0x00000000#32 i = (0 : EReal) := by
  show Ideal.ofBits .f32 0x00000000#32 = 0
  simp [Ideal.ofBits, Ideal.ieee]

/-- Scores of a tile of queries against 256 keys, in units of log 2. -/
def score (A : FVec Ideal S64x128 .bf16) (K : FVec Ideal S256x128 .bf16) (B : FVec Ideal S1x1x1x64x256 .f32) :
    FVec Ideal S64x256 .bf16 :=
  fun i => (∑ l : Fin 128, A (ix2 (i 0) l) * K (ix2 (i 1) l)) + shapeCast S64x256 B shapeCasts_S1x1x1x64x256_S64x256 i

theorem score_of {o : ℕ} {L : List ((s : Shape) × (s.Idx → Ideal .bf16))}
    {h : Shape.Concatenates (L.map (·.1)) ⟨2, ![N, 128]⟩ 0} {K : FVec Ideal S256x128 .bf16} {B : FVec Ideal S1x1x1x64x256 .f32}
    {d : DotDims ⟨2, ![N, 128]⟩ S256x128 ⟨2, ![N, 256]⟩} {hs} {hb}
    {A A' : FVec Ideal S64x128 .bf16}
    (hL : L[o / 64]? = some ⟨S64x128, A⟩) (hpre : before (N := N) 128 (o / 64) L = o)
    (hd : d = DotDims.transposedRhs N 128 256) (hA : A = A') :
    truncf .bf16 (addf (extractStridedSlice (s := ⟨2, ![N, 256]⟩) S64x256 ![o, 0] (matmul d none (concatenate ⟨2, ![N, 128]⟩ 0 L h) K
      (constant (F := Ideal) ⟨2, ![N, 256]⟩ .f32 0x00000000#32)) hs) (shapeCast S64x256 B shapeCasts_S1x1x1x64x256_S64x256)) hb
      = score A' K B := by
  subst hd hA
  funext i
  obtain ⟨a, b, rfl⟩ : ∃ (a : Fin 64) (b : Fin 256), i = ix2 a b := ⟨i 0, i 1, by funext a; fin_cases a <;> rfl⟩
  have ho : o + a < N := by have h1 : o + 64 ≤ N := hs.2 0; omega
  refine congrArg (fun z : EReal => z + shapeCast S64x256 B shapeCasts_S1x1x1x64x256_S64x256 (ix2 a b)) ?_
  rw [slice_apply _ hs a b ho]
  refine (Ideal.matmul_transposedRhs_apply none _ _ _ _ _).trans ?_
  rw [zero_apply, zero_add]
  exact Finset.sum_congr rfl fun l _ => congrArg (fun z : EReal => z * K (ix2 b l)) (stack_apply (N := N) hL hpre a l ho)

/-- The values of 256 keys and, beside them, a column block of ones. -/
abbrev ext (V : FVec Ideal S256x128 .bf16) : FVec Ideal S256x256 .bf16 :=
  concatenate S256x256 1 [⟨S256x128, V⟩, ⟨S256x128, k0_pay4 (F := Ideal)⟩] concatenates_S256x128_S256x128_S256x256_d1

/-- Weighted sums of the values of two blocks of 256 keys. -/
def acc (P0 : FVec Ideal S64x256 .bf16) (V0 : FVec Ideal S256x128 .bf16) (P1 : FVec Ideal S64x256 .bf16) (V1 : FVec Ideal S256x128 .bf16) :
    FVec Ideal S64x256 .f32 :=
  fun i => (∑ k : Fin 256, P0 (ix2 (i 0) k) * ext V0 (ix2 k (i 1))) + ∑ k : Fin 256, P1 (ix2 (i 0) k) * ext V1 (ix2 k (i 1))

theorem part_of {o : ℕ} {L : List ((s : Shape) × (s.Idx → Ideal .bf16))}
    {h : Shape.Concatenates (L.map (·.1)) ⟨2, ![N, 256]⟩ 0} {V : FVec Ideal S256x256 .bf16}
    {d : DotDims ⟨2, ![N, 256]⟩ S256x256 ⟨2, ![N, 256]⟩} {hs}
    {P : FVec Ideal S64x256 .bf16}
    (hL : L[o / 64]? = some ⟨S64x256, P⟩) (hpre : before (N := N) 256 (o / 64) L = o)
    (hd : d = DotDims.plain N 256 256) (a : Fin 64) (b : Fin 256) :
    extractStridedSlice (s := ⟨2, ![N, 256]⟩) S64x256 ![o, 0] (matmul d none (concatenate ⟨2, ![N, 256]⟩ 0 L h) V
      (constant (F := Ideal) ⟨2, ![N, 256]⟩ .f32 0x00000000#32)) hs (ix2 a b)
      = ∑ k : Fin 256, P (ix2 a k) * V (ix2 k b) := by
  subst hd
  have ho : o + a < N := by have h1 : o + 64 ≤ N := hs.2 0; omega
  rw [slice_apply _ hs a b ho]
  refine (Ideal.matmul_plain_apply none _ _ _ _ _).trans ?_
  rw [zero_apply, zero_add]
  exact Finset.sum_congr rfl fun l _ => congrArg (fun z : EReal => z * V (ix2 l b)) (stack_apply (N := N) hL hpre a l ho)

theorem acc_of {o o' : ℕ} {L L' : List ((s : Shape) × (s.Idx → Ideal .bf16))}
    {h : Shape.Concatenates (L.map (·.1)) ⟨2, ![N, 256]⟩ 0} {h' : Shape.Concatenates (L'.map (·.1)) ⟨2, ![N', 256]⟩ 0}
    {V V' : FVec Ideal S256x128 .bf16}
    {d : DotDims ⟨2, ![N, 256]⟩ S256x256 ⟨2, ![N, 256]⟩} {d' : DotDims ⟨2, ![N', 256]⟩ S256x256 ⟨2, ![N', 256]⟩} {hs hs'}
    {P P' Q Q' : FVec Ideal S64x256 .bf16}
    (hL : L[o / 64]? = some ⟨S64x256, P⟩) (hpre : before (N := N) 256 (o / 64) L = o) (hd : d = DotDims.plain N 256 256)
    (hL' : L'[o' / 64]? = some ⟨S64x256, P'⟩) (hpre' : before (N := N') 256 (o' / 64) L' = o') (hd' : d' = DotDims.plain N' 256 256)
    (hP : P = Q) (hP' : P' = Q') :
    addf (extractStridedSlice (s := ⟨2, ![N, 256]⟩) S64x256 ![o, 0] (matmul d none (concatenate ⟨2, ![N, 256]⟩ 0 L h) (ext V)
        (constant (F := Ideal) ⟨2, ![N, 256]⟩ .f32 0x00000000#32)) hs)
      (extractStridedSlice (s := ⟨2, ![N', 256]⟩) S64x256 ![o', 0] (matmul d' none (concatenate ⟨2, ![N', 256]⟩ 0 L' h') (ext V')
        (constant (F := Ideal) ⟨2, ![N', 256]⟩ .f32 0x00000000#32)) hs')
      = acc Q V Q' V' := by
  subst hP hP'
  funext i
  obtain ⟨a, b, rfl⟩ : ∃ (a : Fin 64) (b : Fin 256), i = ix2 a b := ⟨i 0, i 1, by funext a; fin_cases a <;> rfl⟩
  exact congrArg₂ (· + ·) (part_of hL hpre hd a b) (part_of hL' hpre' hd' a b)

/-- The numerators of the softmax at the first and at the second block of 256 keys. -/
abbrev num0 (s t : FVec Ideal S64x256 .bf16) : FVec Ideal S64x256 .bf16 := k0_pay159 s t
abbrev num1 (s t : FVec Ideal S64x256 .bf16) : FVec Ideal S64x256 .bf16 := k0_pay160 s t

theorem num0_of {s t s' t' : FVec Ideal S64x256 .bf16} (hs : s = s') (ht : t = t') : num0 s t = num0 s' t' := by rw [hs, ht]
theorem num1_of {s t s' t' : FVec Ideal S64x256 .bf16} (hs : s = s') (ht : t = t') : num1 s t = num1 s' t' := by rw [hs, ht]

/-- What a row writes, from the weighted sums of its two heads. -/
abbrev tail (A0 A1 : FVec Ideal S64x256 .f32) (Z : FVec Ideal S64x128 .bf16) : FVec Ideal S64x128 .bf16 :=
  k0_pay318 k0_pay2 A0 A1 (k0_pay316 A0) (k0_pay316 A1) Z

theorem tail_of {A0 A1 B0 B1 : FVec Ideal S64x256 .f32} {Z : FVec Ideal S64x128 .bf16} (h0 : A0 = B0) (h1 : A1 = B1) (x : S64x128.Idx) :
    tail A0 A1 Z x = tail B0 B1 Z x := by rw [h0, h1]

end Cert.KernelIdeal.NA
-- ==== Proof.NaTile.lean ====
/-
One tile of the neighbourhood attention: 64 queries of two heads against 512 keys. What the kernel writes for it is the softmax of
the scores, times the values, times the gate, whatever the tile's place.
-/
module

public import proofs.«01_k».proof.Proof.NaRow
public import proofs.«01_k».proof.Proof.Layer
public import Idealize.ShloMosaic.Lib.Pipeline.ValueKit

@[expose] public section

set_option maxRecDepth 16384

noncomputable section

namespace Cert.Softmax

open Idealize.ShloMosaic

/-- The greatest of 512 numbers, two halves at a time. -/
theorem fold_halves (f : Fin 512 → EReal) :
    (Finset.univ : Finset (Fin 256)).fold max ⊥ (fun k : Fin 256 => max (f ⟨k, by omega⟩) (f ⟨256 + k, by omega⟩)) = Finset.univ.fold max ⊥ f := by
  show (Finset.univ : Finset (Fin 256)).sup (fun k : Fin 256 => max (f ⟨k, by omega⟩) (f ⟨256 + k, by omega⟩)) = Finset.univ.sup f
  refine le_antisymm (Finset.sup_le fun k _ => max_le (Finset.le_sup (f := f) (Finset.mem_univ _)) (Finset.le_sup (f := f) (Finset.mem_univ _)))
    (Finset.sup_le fun k _ => ?_)
  by_cases hk : (k : ℕ) < 256
  · refine le_trans ?_ (Finset.le_sup (f := fun k : Fin 256 => max (f ⟨k, by omega⟩) (f ⟨256 + k, by omega⟩)) (Finset.mem_univ ⟨k, hk⟩))
    exact le_max_left _ _
  · refine le_trans ?_ (Finset.le_sup (f := fun k : Fin 256 => max (f ⟨k, by omega⟩) (f ⟨256 + k, by omega⟩)) (Finset.mem_univ ⟨k - 256, by omega⟩))
    refine le_trans (le_of_eq (congrArg f (Fin.ext ?_))) (le_max_right _ _)
    show (k : ℕ) = 256 + (k - 256)
    omega

theorem sum_halves (f : Fin 512 → EReal) : ∑ k : Fin 256, f ⟨k, by omega⟩ + ∑ k : Fin 256, f ⟨256 + k, by omega⟩ = ∑ k, f k :=
  (Fin.sum_univ_add (a := 256) (b := 256) f).symm

/-- The weight of `k` before it is normalised. -/
def wt (L : Fin 512 → EReal) (k : Fin 512) : EReal := Ideal.exp (L k - Finset.univ.fold max ⊥ L)

/-- The weighted mean of `v` under the softmax of `L`. -/
def mean (L v : Fin 512 → EReal) : EReal := ∑ k, v k * (wt L k * Ideal.div 1 (∑ k, wt L k))

/-- The mean from logits in units of log 2, two halves at a time and normalised at the end. -/
theorem mean_eq (L v : Fin 512 → EReal) (s t : Fin 256 → EReal) (hs : ∀ k : Fin 256, s k = (lg : EReal) * L ⟨k, by omega⟩)
    (ht : ∀ k : Fin 256, t k = (lg : EReal) * L ⟨256 + k, by omega⟩) (M : EReal)
    (hM : M = Finset.univ.fold max ⊥ fun k => max (s k) (t k)) :
    (∑ k : Fin 256, Ideal.exp2 (s k - M) * v ⟨k, by omega⟩ + ∑ k : Fin 256, Ideal.exp2 (t k - M) * v ⟨256 + k, by omega⟩)
      * Ideal.div 1 (∑ k : Fin 256, Ideal.exp2 (s k - M) + ∑ k : Fin 256, Ideal.exp2 (t k - M)) = mean L v := by
  have hM' : M = (lg : EReal) * Finset.univ.fold max ⊥ L := by
    rw [hM, ← fold_lg, ← fold_halves]
    simp only [hs, ht]
  have e0 : ∀ k : Fin 256, Ideal.exp2 (s k - M) = wt L ⟨k, by omega⟩ := fun k => by rw [hs, hM', lg_sub, exp2_lg]; rfl
  have e1 : ∀ k : Fin 256, Ideal.exp2 (t k - M) = wt L ⟨256 + k, by omega⟩ := fun k => by rw [ht, hM', lg_sub, exp2_lg]; rfl
  simp only [e0, e1]
  rw [sum_halves (fun k => wt L k * v k), sum_halves (wt L), normalise (wt L) v fun k => exp_nonneg _]
  rfl

/-- A logit in units of log 2: the scale of the queries carries the factor, the biases are given with it. -/
theorem logit_eq {ι : Type*} [Fintype ι] (q k : ι → EReal) (b : EReal) :
    ∑ d, q d * (((1 / 8) * (Real.log 2)⁻¹ : ℝ) : EReal) * k d + b
      = (lg : EReal) * (∑ d, q d * ((1 / 8 : ℝ) : EReal) * k d + b * ((Real.log 2 : ℝ) : EReal)) := by
  rw [EReal.left_distrib_of_nonneg_of_ne_top lg_nonneg (EReal.coe_ne_top _), mul_sum _ _ lg_nonneg (EReal.coe_ne_top _)]
  refine congrArg₂ (· + ·) (Fintype.sum_congr _ _ fun d => ?_) ?_
  · rw [EReal.coe_mul]
    show q d * (((1 / 8 : ℝ) : EReal) * (lg : EReal)) * k d = _
    ac_rfl
  · rw [mul_left_comm, ← EReal.coe_mul]
    show b = b * (((Real.log 2)⁻¹ * Real.log 2 : ℝ) : EReal)
    rw [inv_mul_cancel₀ (Real.log_pos one_lt_two).ne', EReal.coe_one, mul_one]

end Cert.Softmax

namespace Cert.KernelIdeal.NA

open Idealize.ShloMosaic Idealize.ShloMosaic.TcCoe Idealize.SL.Sem Cert.KernelIdeal Cert.KernelIdeal.Gen Cert.Layer

/-- The queries of the first and of the second head, the other head's lanes at zero. -/
abbrev qm0 (Q : FVec Ideal S64x128 .bf16) : FVec Ideal S64x128 .bf16 := k0_pay6 Q
abbrev qm1 (Q : FVec Ideal S64x128 .bf16) : FVec Ideal S64x128 .bf16 := k0_pay7 Q

theorem lanes (j : Fin 64) (l : Fin 128) : k0_pay2 (ix2 j l) = if (l : ℕ) < 64 then 1#1 else 0#1 := by
  have h : ∀ l : Fin 128, IntOp.cmpi CmpIPredicate.slt (BitVec.ofNat 32 l) 64#32 = if (l : ℕ) < 64 then 1#1 else 0#1 := by decide +kernel
  refine Eq.trans ?_ (h l)
  pointwise [k0_pay2]

/-- What a tile writes at a lane: the head of the lane takes its weighted sum and its normaliser. -/
theorem tail_apply (A0 A1 : FVec Ideal S64x256 .f32) (Z : FVec Ideal S64x128 .bf16) (j : Fin 64) (l : Fin 128) :
    tail A0 A1 Z (ix2 j l) = (if (l : ℕ) < 64 then A0 (ix2 j ⟨l, by omega⟩) else A1 (ix2 j ⟨l, by omega⟩))
      * Ideal.div 1 (if (l : ℕ) < 64 then A0 (ix2 j ⟨128 + l, by omega⟩) else A1 (ix2 j ⟨128 + l, by omega⟩))
      * (Z (ix2 j l) * sg (Z (ix2 j l))) := by
  pointwise [k0_pay318, k0_pay316]
  rw [lanes, sg_eq]
  by_cases h : (l : ℕ) < 64
  · simp only [if_pos h]; rfl
  · simp only [if_neg h]; rfl

theorem acc_value (P0 P1 : FVec Ideal S64x256 .bf16) (V0 V1 : FVec Ideal S256x128 .bf16) (j : Fin 64) (l : Fin 128) :
    acc P0 V0 P1 V1 (ix2 j ⟨l, by omega⟩) = ∑ k : Fin 256, P0 (ix2 j k) * V0 (ix2 k l) + ∑ k : Fin 256, P1 (ix2 j k) * V1 (ix2 k l) := by
  refine congrArg₂ (· + ·) (Fintype.sum_congr _ _ fun k => congrArg₂ (· * ·) rfl ?_) (Fintype.sum_congr _ _ fun k => congrArg₂ (· * ·) rfl ?_)
  all_goals pointwise

theorem acc_one (P0 P1 : FVec Ideal S64x256 .bf16) (V0 V1 : FVec Ideal S256x128 .bf16) (j : Fin 64) (l : Fin 128) :
    acc P0 V0 P1 V1 (ix2 j ⟨128 + l, by omega⟩) = ∑ k : Fin 256, P0 (ix2 j k) + ∑ k : Fin 256, P1 (ix2 j k) := by
  refine congrArg₂ (· + ·) (Fintype.sum_congr _ _ fun k => ?_) (Fintype.sum_congr _ _ fun k => ?_)
  all_goals
    refine (congrArg₂ (· * ·) rfl ?_).trans (mul_one _)
    pointwise [k0_pay4]

/-- The greatest score of a row, over both blocks of keys. -/
theorem bot_eq : Ideal.ofBits .bf16 65408#16 = ⊥ := by simp [Ideal.ofBits, Ideal.ieee]

theorem num0_apply (s t : FVec Ideal S64x256 .bf16) (j : Fin 64) (k : Fin 256) :
    num0 s t (ix2 j k) = Ideal.exp2 (s (ix2 j k) - Finset.univ.fold max ⊥ fun k : Fin 256 => max (s (ix2 j k)) (t (ix2 j k))) := by
  pointwise [k0_pay159, k0_pay158]
  rw [bot_eq]
  rfl

theorem num1_apply (s t : FVec Ideal S64x256 .bf16) (j : Fin 64) (k : Fin 256) :
    num1 s t (ix2 j k) = Ideal.exp2 (t (ix2 j k) - Finset.univ.fold max ⊥ fun k : Fin 256 => max (s (ix2 j k)) (t (ix2 j k))) := by
  pointwise [k0_pay160, k0_pay158]
  rw [bot_eq]
  rfl

theorem q_scale : Named.named (F := Ideal) κ "q_scale" (φ := .f32) 0x3E38AA3B#32 = (((1 / 8) * (Real.log 2)⁻¹ : ℝ) : EReal) :=
  IdealRules.named_const.ideal_named_scalar _ _ _ _ rfl

/-- The scores of the first head: only its 64 lanes count. -/
theorem score0_apply (Q : FVec Ideal S64x128 .bf16) (K : FVec Ideal S256x128 .bf16) (B : FVec Ideal S1x1x1x64x256 .f32) (j : Fin 64) (k : Fin 256) :
    score (qm0 Q) K B (ix2 j k) = ∑ d : Fin 64, Q (ix2 j ⟨d, by omega⟩) * (((1 / 8) * (Real.log 2)⁻¹ : ℝ) : EReal) * K (ix2 k ⟨d, by omega⟩)
      + B (ix5 0 0 0 j k) := by
  refine congrArg₂ (· + ·) ?_ ?_
  · refine (Fin.sum_univ_add (a := 64) (b := 64) _).trans ?_
    pointwise [k0_pay6, k0_pay5]
    simp only [lanes, q_scale, Fin.val_castAdd, Fin.val_natAdd, Fin.is_lt, if_true, show ∀ x : Fin 64, ¬ 64 + (x : ℕ) < 64 from fun x => by omega, if_false]
    refine (congrArg₂ (· + ·) rfl (Finset.sum_eq_zero fun x _ => rfl)).trans (add_zero _)
  · pointwise

theorem score1_apply (Q : FVec Ideal S64x128 .bf16) (K : FVec Ideal S256x128 .bf16) (B : FVec Ideal S1x1x1x64x256 .f32) (j : Fin 64) (k : Fin 256) :
    score (qm1 Q) K B (ix2 j k) = ∑ d : Fin 64, Q (ix2 j ⟨64 + d, by omega⟩) * (((1 / 8) * (Real.log 2)⁻¹ : ℝ) : EReal) * K (ix2 k ⟨64 + d, by omega⟩)
      + B (ix5 0 0 0 j k) := by
  refine congrArg₂ (· + ·) ?_ ?_
  · refine (Fin.sum_univ_add (a := 64) (b := 64) _).trans ?_
    pointwise [k0_pay7, k0_pay5, k0_pay3]
    simp only [lanes, q_scale, Fin.val_castAdd, Fin.val_natAdd, Fin.is_lt, if_true, show ∀ x : Fin 64, ¬ 64 + (x : ℕ) < 64 from fun x => by omega, if_false]
    refine (congrArg₂ (· + ·) (Finset.sum_eq_zero fun x _ => rfl) rfl).trans (zero_add _)
  · pointwise

/-- The tile as mathematics: logits `L` of the two heads, values `v` by lane and key, gate `z`. -/
theorem tile_apply (Q Z : FVec Ideal S64x128 .bf16) (K0 K1 V0 V1 : FVec Ideal S256x128 .bf16) (B00 B01 B10 B11 : FVec Ideal S1x1x1x64x256 .f32)
    (j : Fin 64) (l : Fin 128) (h : Fin 2) (hl : (l : ℕ) / 64 = h) (q : Fin 64 → EReal) (kk : Fin 512 → Fin 64 → EReal) (b : Fin 512 → EReal) (v : Fin 512 → EReal)
    (hq : ∀ d : Fin 64, Q (ix2 j ⟨64 * h + d, by omega⟩) = q d)
    (hk0 : ∀ (k : Fin 256) (d : Fin 64), K0 (ix2 k ⟨64 * h + d, by omega⟩) = kk ⟨k, by omega⟩ d)
    (hk1 : ∀ (k : Fin 256) (d : Fin 64), K1 (ix2 k ⟨64 * h + d, by omega⟩) = kk ⟨256 + k, by omega⟩ d)
    (hb0 : ∀ k : Fin 256, (if (h : ℕ) = 0 then B00 else B10) (ix5 0 0 0 j k) = b ⟨k, by omega⟩)
    (hb1 : ∀ k : Fin 256, (if (h : ℕ) = 0 then B01 else B11) (ix5 0 0 0 j k) = b ⟨256 + k, by omega⟩)
    (hv0 : ∀ k : Fin 256, V0 (ix2 k l) = v ⟨k, by omega⟩) (hv1 : ∀ k : Fin 256, V1 (ix2 k l) = v ⟨256 + k, by omega⟩) :
    tail (acc (num0 (score (qm0 Q) K0 B00) (score (qm0 Q) K1 B01)) V0 (num1 (score (qm0 Q) K0 B00) (score (qm0 Q) K1 B01)) V1)
      (acc (num0 (score (qm1 Q) K0 B10) (score (qm1 Q) K1 B11)) V0 (num1 (score (qm1 Q) K0 B10) (score (qm1 Q) K1 B11)) V1) Z (ix2 j l)
      = Softmax.mean (fun k => ∑ d, q d * ((1 / 8 : ℝ) : EReal) * kk k d + b k * ((Real.log 2 : ℝ) : EReal)) v * (Z (ix2 j l) * sg (Z (ix2 j l))) := by
  rw [tail_apply]
  refine congrArg₂ (· * ·) ?_ rfl
  obtain ⟨h, hh⟩ := h
  obtain rfl | rfl : h = 0 ∨ h = 1 := by omega
  · have hl' : (l : ℕ) < 64 := by simp at hl; omega
    rw [if_pos hl', if_pos hl', acc_value, acc_one]
    simp only [num0_apply, num1_apply, hv0, hv1]
    refine Softmax.mean_eq _ v (fun k => score (qm0 Q) K0 B00 (ix2 j k)) (fun k => score (qm0 Q) K1 B01 (ix2 j k)) (fun k => ?_) (fun k => ?_) _ rfl
    · rw [← Softmax.logit_eq, score0_apply]
      refine congrArg₂ (· + ·) (Fintype.sum_congr _ _ fun d => ?_) (hb0 k)
      rw [← hq, ← hk0]
      simp
    · rw [← Softmax.logit_eq, score0_apply]
      refine congrArg₂ (· + ·) (Fintype.sum_congr _ _ fun d => ?_) (hb1 k)
      rw [← hq, ← hk1]
      simp
  · have hl' : ¬ (l : ℕ) < 64 := by simp at hl; omega
    rw [if_neg hl', if_neg hl', acc_value, acc_one]
    simp only [num0_apply, num1_apply, hv0, hv1]
    refine Softmax.mean_eq _ v (fun k => score (qm1 Q) K0 B10 (ix2 j k)) (fun k => score (qm1 Q) K1 B11 (ix2 j k)) (fun k => ?_) (fun k => ?_) _ rfl
    · rw [← Softmax.logit_eq, score1_apply]
      refine congrArg₂ (· + ·) (Fintype.sum_congr _ _ fun d => ?_) (hb0 k)
      rw [← hq, ← hk0]
      rfl
    · rw [← Softmax.logit_eq, score1_apply]
      refine congrArg₂ (· + ·) (Fintype.sum_congr _ _ fun d => ?_) (hb1 k)
      rw [← hq, ← hk1]
      rfl

/-- Row `n`, lane `l` of a block of 4096 rows, and the biases of head `h` at row offset `v`; nothing lies outside. -/
def rd (x : Vec Ideal S4096x128 .bf16) (n : ℕ) (l : Fin 128) : EReal := if h : n < 4096 then x (ix2 ⟨n, h⟩ l) else 0
def rb (x : Vec Ideal S1x2x8x64x512 .f32) (h : Fin 2) (v : ℕ) (j : Fin 64) (k : Fin 512) : EReal :=
  if hv : v < 8 then x (ix5 0 h ⟨v, hv⟩ j k) else 0

/-- The first row of the window of row `r`. -/
def start (r : ℕ) : ℕ := min (r - 4) 56

/-- The attention at row `n` of a block, lane `l`. -/
def att (x0 x1 x2 x3 : Vec Ideal S4096x128 .bf16) (x4 : Vec Ideal S1x2x8x64x512 .f32) (n : ℕ) (l : Fin 128) : EReal :=
  Softmax.mean (fun k => ∑ d : Fin 64, rd x0 n ⟨64 * (l / 64) + d, by omega⟩ * ((1 / 8 : ℝ) : EReal)
        * rd x1 (64 * start (n / 64) + k) ⟨64 * (l / 64) + d, by omega⟩
      + rb x4 ⟨l / 64, by omega⟩ (n / 64 - start (n / 64)) ⟨n % 64, by omega⟩ k * ((Real.log 2 : ℝ) : EReal))
    (fun k => rd x2 (64 * start (n / 64) + k) l) * (rd x3 n l * sg (rd x3 n l))

theorem ld_rd (x : Vec Ideal S4096x128 .bf16) {o R : ℕ} (h : ∀ a, (![o, 0] : Fin 2 → ℕ) a + (![R, 128] : Fin 2 → ℕ) a ≤ S4096x128.size a) (i : Fin R) (l : Fin 128) :
    View.ld x (Rect.unit ![o, 0] ![R, 128] h) (ix2 i l) = rd x (o + i) l := by
  have hi : o + i < 4096 := by have := h 0; simp at this; omega
  rw [rd, dif_pos hi]
  refine congrArg x ?_
  funext a; fin_cases a
  · exact Fin.ext (by show o + 1 * (i : ℕ) = o + i; omega)
  · exact Fin.ext (by show 0 + 1 * (l : ℕ) = l; omega)

theorem ld_rb (x : Vec Ideal S1x2x8x64x512 .f32) {hd v o : ℕ} (h : ∀ a, (![0, hd, v, 0, o] : Fin 5 → ℕ) a + (![1, 1, 1, 64, 256] : Fin 5 → ℕ) a ≤ S1x2x8x64x512.size a)
    (hh : hd < 2) (j : Fin 64) (k : Fin 256) (hk : o + k < 512) :
    View.ld x (Rect.unit ![0, hd, v, 0, o] ![1, 1, 1, 64, 256] h) (ix5 0 0 0 j k) = rb x ⟨hd, hh⟩ v j ⟨o + k, hk⟩ := by
  have hv : v < 8 := by have := h 2; simp at this; omega
  rw [rb, dif_pos hv]
  refine congrArg x ?_
  funext a; fin_cases a
  · exact Fin.ext rfl
  · exact Fin.ext rfl
  · exact Fin.ext rfl
  · exact Fin.ext (by show 0 + 1 * (j : ℕ) = j; omega)
  · exact Fin.ext (by show o + 1 * (k : ℕ) = o + k; omega)

/-- A tile of 64 queries at row `o` of the block, its keys from row `s` and its biases at row offset `v`, writes the attention. -/
theorem tile_of (x0 x1 x2 x3 : Vec Ideal S4096x128 .bf16) (x4 : Vec Ideal S1x2x8x64x512 .f32) (y : S4096x128.Idx) (x : S64x128.Idx)
    {o s t v : ℕ} {A0 A1 : FVec Ideal S64x256 .f32} {P00 P01 P10 P11 S00 S01 S10 S11 : FVec Ideal S64x256 .bf16}
    {ho : ∀ a, (![o, 0] : Fin 2 → ℕ) a + (![64, 128] : Fin 2 → ℕ) a ≤ S4096x128.size a}
    {hs : ∀ a, (![s, 0] : Fin 2 → ℕ) a + (![256, 128] : Fin 2 → ℕ) a ≤ S4096x128.size a}
    {ht : ∀ a, (![t, 0] : Fin 2 → ℕ) a + (![256, 128] : Fin 2 → ℕ) a ≤ S4096x128.size a}
    {hb00 : ∀ a, (![0, 0, v, 0, 0] : Fin 5 → ℕ) a + (![1, 1, 1, 64, 256] : Fin 5 → ℕ) a ≤ S1x2x8x64x512.size a}
    {hb01 : ∀ a, (![0, 0, v, 0, 256] : Fin 5 → ℕ) a + (![1, 1, 1, 64, 256] : Fin 5 → ℕ) a ≤ S1x2x8x64x512.size a}
    {hb10 : ∀ a, (![0, 1, v, 0, 0] : Fin 5 → ℕ) a + (![1, 1, 1, 64, 256] : Fin 5 → ℕ) a ≤ S1x2x8x64x512.size a}
    {hb11 : ∀ a, (![0, 1, v, 0, 256] : Fin 5 → ℕ) a + (![1, 1, 1, 64, 256] : Fin 5 → ℕ) a ≤ S1x2x8x64x512.size a}
    (hA0 : A0 = acc P00 (View.ld x2 (Rect.unit ![s, 0] ![256, 128] hs)) P01 (View.ld x2 (Rect.unit ![t, 0] ![256, 128] ht)))
    (hA1 : A1 = acc P10 (View.ld x2 (Rect.unit ![s, 0] ![256, 128] hs)) P11 (View.ld x2 (Rect.unit ![t, 0] ![256, 128] ht)))
    (hP00 : P00 = num0 S00 S01) (hP01 : P01 = num1 S00 S01) (hP10 : P10 = num0 S10 S11) (hP11 : P11 = num1 S10 S11)
    (hS00 : S00 = score (qm0 (View.ld x0 (Rect.unit ![o, 0] ![64, 128] ho))) (View.ld x1 (Rect.unit ![s, 0] ![256, 128] hs)) (View.ld x4 (Rect.unit ![0, 0, v, 0, 0] ![1, 1, 1, 64, 256] hb00)))
    (hS01 : S01 = score (qm0 (View.ld x0 (Rect.unit ![o, 0] ![64, 128] ho))) (View.ld x1 (Rect.unit ![t, 0] ![256, 128] ht)) (View.ld x4 (Rect.unit ![0, 0, v, 0, 256] ![1, 1, 1, 64, 256] hb01)))
    (hS10 : S10 = score (qm1 (View.ld x0 (Rect.unit ![o, 0] ![64, 128] ho))) (View.ld x1 (Rect.unit ![s, 0] ![256, 128] hs)) (View.ld x4 (Rect.unit ![0, 1, v, 0, 0] ![1, 1, 1, 64, 256] hb10)))
    (hS11 : S11 = score (qm1 (View.ld x0 (Rect.unit ![o, 0] ![64, 128] ho))) (View.ld x1 (Rect.unit ![t, 0] ![256, 128] ht)) (View.ld x4 (Rect.unit ![0, 1, v, 0, 256] ![1, 1, 1, 64, 256] hb11)))
    (h64 : o % 64 = 0) (hst : s = 64 * start (o / 64)) (htt : t = s + 256) (hv : v = o / 64 - start (o / 64))
    (hy0 : (y 0 : ℕ) = o + x 0) (hy1 : (y 1 : ℕ) = x 1) :
    tail A0 A1 (View.ld x3 (Rect.unit ![o, 0] ![64, 128] ho)) x = att x0 x1 x2 x3 x4 (y 0) (y 1) := by
  obtain ⟨j, l, rfl⟩ : ∃ (j : Fin 64) (l : Fin 128), x = ix2 j l := ⟨x 0, x 1, by funext a; fin_cases a <;> rfl⟩
  obtain ⟨n, l', rfl⟩ : ∃ (n : Fin 4096) (l : Fin 128), y = ix2 n l := ⟨y 0, y 1, by funext a; fin_cases a <;> rfl⟩
  obtain rfl : l' = l := Fin.ext hy1
  have hn : (n : ℕ) = o + j := hy0
  have e1 : (n : ℕ) / 64 = o / 64 := by omega
  have e2 : (⟨(n : ℕ) % 64, by omega⟩ : Fin 64) = j := Fin.ext (by show (n : ℕ) % 64 = j; omega)
  subst hA0 hA1 hP00 hP01 hP10 hP11 hS00 hS01 hS10 hS11 htt
  show _ = att x0 x1 x2 x3 x4 n l'
  refine (tile_apply _ _ _ _ _ _ _ _ _ _ j l' ⟨l' / 64, by omega⟩ rfl (fun d => rd x0 n ⟨64 * (l' / 64) + d, by omega⟩)
    (fun k d => rd x1 (s + k) ⟨64 * (l' / 64) + d, by omega⟩) (fun k => rb x4 ⟨l' / 64, by omega⟩ v j k) (fun k => rd x2 (s + k) l')
    (fun d => ?_) (fun k d => ?_) (fun k d => ?_) (fun k => ?_) (fun k => ?_) (fun k => ?_) (fun k => ?_)).trans ?_
  · rw [hn]; exact ld_rd _ _ _ _
  · exact ld_rd _ _ _ _
  · exact (ld_rd _ _ _ _).trans (congrArg (fun a => rd x1 a _) (Nat.add_assoc _ _ _))
  · by_cases h : (l' : ℕ) / 64 = 0
    · rw [if_pos h]
      refine (ld_rb x4 hb00 (by omega) j k (by omega)).trans ?_
      simp [h]
    · have h : (l' : ℕ) / 64 = 1 := by omega
      rw [if_neg (by simp [h])]
      refine (ld_rb x4 hb10 (by omega) j k (by omega)).trans ?_
      simp [h]
  · by_cases h : (l' : ℕ) / 64 = 0
    · rw [if_pos h]
      refine (ld_rb x4 hb01 (by omega) j k (by omega)).trans ?_
      simp [h]
    · have h : (l' : ℕ) / 64 = 1 := by omega
      rw [if_neg (by simp [h])]
      refine (ld_rb x4 hb11 (by omega) j k (by omega)).trans ?_
      simp [h]
  · exact ld_rd _ _ _ _
  · exact (ld_rd _ _ _ _).trans (congrArg (fun a => rd x2 a _) (Nat.add_assoc _ _ _))
  · rw [att, e1, e2, ← hst, ← hv, hn]
    refine congrArg₂ (· * ·) rfl ?_
    exact congrArg (fun z => z * sg z) (ld_rd _ _ _ _)

end Cert.KernelIdeal.NA
-- ==== Proof.NaBlock.lean ====
/-
The neighbourhood attention: what a grid point writes of its block.
-/
module

public import proofs.«01_k».proof.Proof.NaTile

@[expose] public section

set_option maxRecDepth 16384

noncomputable section

namespace Cert.KernelIdeal.NA

open Idealize.ShloMosaic Idealize.ShloMosaic.TcCoe Idealize.SL.Sem Cert.KernelIdeal Cert.KernelIdeal.Gen

variable (x0 x1 x2 x3 : Vec Ideal S4096x128 .bf16) (x4 : Vec Ideal S1x2x8x64x512 .f32)

set_option maxHeartbeats 2000000 in
/-- A grid point writes the attention of its block: 64 tiles, each read by the one lemma on tiles. -/
theorem block (y : S4096x128.Idx) : out0_5 (F := Ideal) x0 x1 x2 x3 x4 y = att x0 x1 x2 x3 x4 (y 0) (y 1) := by
  canon_tiles x h
  all_goals
    apply tile_of x0 x1 x2 x3 x4 y x
    case hA0 => apply acc_of <;> first | rfl | decide | (dsimp only [List.map]; decide)
    case hA1 => apply acc_of <;> first | rfl | decide | (dsimp only [List.map]; decide)
    case hP00 => rfl
    case hP01 => rfl
    case hP10 => rfl
    case hP11 => rfl
    case hS00 => apply score_of <;> first | rfl | decide | (dsimp only [List.map]; decide)
    case hS01 => apply score_of <;> first | rfl | decide | (dsimp only [List.map]; decide)
    case hS10 => apply score_of <;> first | rfl | decide | (dsimp only [List.map]; decide)
    case hS11 => apply score_of <;> first | rfl | decide | (dsimp only [List.map]; decide)
    case h64 => rfl
    case hst => rfl
    case htt => rfl
    case hv => rfl
    case hy0 => omega
    case hy1 => omega

end Cert.KernelIdeal.NA
-- ==== Proof.NaOut.lean ====
/-
The neighbourhood attention: the array the kernel leaves.
-/
module

public import proofs.«01_k».proof.Proof.NaBlock

@[expose] public section

set_option maxRecDepth 16384

noncomputable section

namespace Cert.KernelIdeal.NA

open Idealize.ShloMosaic Idealize.ShloMosaic.TcCoe Idealize.SL.Sem Cert.KernelIdeal Cert.KernelIdeal.Gen Cert.Layer

/-- Row `n`, column `a` of the projections, and the biases of head `h` at row offset `v`; nothing lies outside. -/
def pd (p : Vec Ideal S16384x5120 .bf16) (n a : ℕ) : EReal := if h : n < 16384 ∧ a < 5120 then p (ix2 ⟨n, h.1⟩ ⟨a, h.2⟩) else 0
def bd (b : Vec Ideal S2x8x8x64x512 .f32) (h v : ℕ) (j : Fin 64) (k : Fin 512) : EReal :=
  if hv : h < 8 ∧ v < 8 then b (ix5 0 ⟨h, hv.1⟩ ⟨v, hv.2⟩ j k) else 0

/-- The neighbourhood attention at row `i`, column `a` of the result. -/
def out (p : Vec Ideal S16384x5120 .bf16) (b : Vec Ideal S2x8x8x64x512 .f32) (i a : ℕ) : EReal :=
  Softmax.mean (fun k => ∑ d : Fin 64, pd p i (1024 + 64 * (a / 64) + d) * ((1 / 8 : ℝ) : EReal)
        * pd p (4096 * (i / 4096) + 64 * start (i / 64 % 64) + k) (1536 + 64 * (a / 64) + d)
      + bd b (a / 64) (i / 64 % 64 - start (i / 64 % 64)) ⟨i % 64, by omega⟩ k * ((Real.log 2 : ℝ) : EReal))
    (fun k => pd p (4096 * (i / 4096) + 64 * start (i / 64 % 64) + k) (2048 + a)) * (pd p i (2560 + a) * sg (pd p i (2560 + a)))

variable (m : (ℓ : Loc nD τ sig) → Buf (Elt Ideal) ℓ)

theorem idx : ∀ t : Fin cfg0.N, win0_0.index t = ![t.val / 4, 8 + t.val % 4] ∧ win0_1.index t = ![t.val / 4, 12 + t.val % 4]
    ∧ win0_2.index t = ![t.val / 4, 16 + t.val % 4] ∧ win0_3.index t = ![t.val / 4, 20 + t.val % 4]
    ∧ win0_4.index t = ![0, t.val % 4, 0, 0, 0] ∧ win0_5.index t = ![t.val / 4, t.val % 4] :=
  (by decide +kernel : ∀ t : Fin grid0.N, _)

theorem lt16 (t : Fin cfg0.N) : t.val < 16 := lt_of_lt_of_eq t.isLt N_0

theorem rd0 (c : Dev nD) (t : Fin cfg0.N) (n : ℕ) (hn : n < 4096) (l : Fin 128) :
    rd (iblk m c 0 t) n l = pd (m ((c : Thread nD τ).loc main_arg0)) (4096 * (t.val / 4) + n) (1024 + 128 * (t.val % 4) + l) := by
  have := lt16 t
  rw [rd, dif_pos hn, pd, dif_pos (by omega)]
  blk_point [iblk, V, idx t]

theorem rd1 (c : Dev nD) (t : Fin cfg0.N) (n : ℕ) (hn : n < 4096) (l : Fin 128) :
    rd (iblk m c 1 t) n l = pd (m ((c : Thread nD τ).loc main_arg0)) (4096 * (t.val / 4) + n) (1536 + 128 * (t.val % 4) + l) := by
  have := lt16 t
  rw [rd, dif_pos hn, pd, dif_pos (by omega)]
  blk_point [iblk, V, idx t]

theorem rd2 (c : Dev nD) (t : Fin cfg0.N) (n : ℕ) (hn : n < 4096) (l : Fin 128) :
    rd (iblk m c 2 t) n l = pd (m ((c : Thread nD τ).loc main_arg0)) (4096 * (t.val / 4) + n) (2048 + 128 * (t.val % 4) + l) := by
  have := lt16 t
  rw [rd, dif_pos hn, pd, dif_pos (by omega)]
  blk_point [iblk, V, idx t]

theorem rd3 (c : Dev nD) (t : Fin cfg0.N) (n : ℕ) (hn : n < 4096) (l : Fin 128) :
    rd (iblk m c 3 t) n l = pd (m ((c : Thread nD τ).loc main_arg0)) (4096 * (t.val / 4) + n) (2560 + 128 * (t.val % 4) + l) := by
  have := lt16 t
  rw [rd, dif_pos hn, pd, dif_pos (by omega)]
  blk_point [iblk, V, idx t]

theorem rb4 (c : Dev nD) (t : Fin cfg0.N) (h : Fin 2) (v : ℕ) (hv : v < 8) (j : Fin 64) (k : Fin 512) :
    rb (iblk m c 4 t) h v j k = bd (m ((c : Thread nD τ).loc main_arg1)) (2 * (t.val % 4) + h) v j k := by
  have := lt16 t
  rw [rb, dif_pos hv, bd, dif_pos (by omega)]
  blk_point [iblk, V, idx t]

theorem start_le (r : ℕ) : start r ≤ 56 := Nat.min_le_right _ _
theorem off_lt (r : ℕ) (h : r < 64) : r - start r < 8 := by rw [start]; omega

/-- The attention of a block is the attention of the array, at the block's rows and columns. -/
theorem att_blk (c : Dev nD) (t : Fin cfg0.N) (n : Fin 4096) (l : Fin 128) :
    att (iblk m c 0 t) (iblk m c 1 t) (iblk m c 2 t) (iblk m c 3 t) (iblk m c 4 t) n l
      = out (m ((c : Thread nD τ).loc main_arg0)) (m ((c : Thread nD τ).loc main_arg1)) (4096 * (t.val / 4) + n) (128 * (t.val % 4) + l) := by
  have ht := lt16 t
  have hst := start_le ((n : ℕ) / 64)
  have e1 : (4096 * (t.val / 4) + (n : ℕ)) / 4096 = t.val / 4 := by omega
  have e2 : (4096 * (t.val / 4) + (n : ℕ)) / 64 % 64 = (n : ℕ) / 64 := by omega
  have e3 : 64 * ((128 * (t.val % 4) + (l : ℕ)) / 64) = 128 * (t.val % 4) + 64 * ((l : ℕ) / 64) := by omega
  have e4 : (128 * (t.val % 4) + (l : ℕ)) / 64 = 2 * (t.val % 4) + (l : ℕ) / 64 := by omega
  have e5 : (⟨(4096 * (t.val / 4) + (n : ℕ)) % 64, by omega⟩ : Fin 64) = ⟨(n : ℕ) % 64, by omega⟩ := Fin.ext (by show _ % 64 = _ % 64; omega)
  rw [att, out, e1, e2, e3, e4, e5, rd3 m c t n n.isLt]
  refine congrArg₂ (· * ·) (congrArg₂ Softmax.mean (funext fun k => congrArg₂ (· + ·) (Fintype.sum_congr _ _ fun d => ?_) ?_) (funext fun k => ?_)) ?_
  · rw [rd0 m c t n n.isLt, rd1 m c t _ (by omega)]
    simp only [Nat.add_assoc]
  · rw [rb4 m c t _ _ (off_lt _ (by omega))]
  · rw [rd2 m c t _ (by omega)]
    simp only [Nat.add_assoc]
  · simp only [Nat.add_assoc]

/-- The array the kernel leaves. -/
theorem final (c : Dev nD) : (dats m 0 c).arrAt 5 cfg0.N
    = fun y : S16384x512.Idx => out (m ((c : Thread nD τ).loc main_arg0)) (m ((c : Thread nD τ).loc main_arg1)) (y 0) (y 1) := by
  refine (dats m 0 c).arrAt_eq_of_covers 5 _ (by decide +kernel) fun t hf y => ?_
  blk_simp
  rw [after0_5, block]
  refine (att_blk m c t (y 0) (y 1)).trans ?_
  congr 1
  · blk_simp [idx t]
    omega
  · blk_simp [idx t]
    omega

end Cert.KernelIdeal.NA
-- ==== Proof.NaRef.lean ====
/-
The neighbourhood attention as the reference leaves it: its windows, its logits, its softmax, read at an index.
-/
module

public import proofs.«01_k».proof.Proof.Gen.ReferenceIdeal.Run
public import proofs.«01_k».proof.Proof.NaOut
public import Idealize.ShloMosaic.Lib.Pipeline.ValueKit
public import Idealize.ShloMosaic.Lib.ValueIdxRank6

@[expose] public section

set_option maxRecDepth 16384

noncomputable section

namespace Cert.ReferenceIdeal.NA

open Cert.ReferenceIdeal.Gen Idealize.ShloMosaic Idealize.ShloMosaic.TcCoe Idealize.SL.Sem Cert.Layer
open Cert.KernelIdeal.NA (start start_le pd bd out)

/-- The gather of the windows' rows: row `a` of the window of row `r` is the row its table names. -/
theorem gather_rows {α : Type} (x : S4x64x64x8x64.Idx → α) (idx : IVec S64x8x1 32) (B : Fin 4) (r : Fin 64) (a : Fin 8) (c : Fin 64) (h : Fin 8) (d : Fin 64) :
    Host.gather gather_S4x64x64x8x64_S64x8x1_S4x64x8x64x8x64_0345_1_n_n_1_2_4164864 x idx (ix6 B r a c h d)
      = x (ix5 B ⟨min (idx (ix3 r a 0)).toInt.toNat 63, by omega⟩ c h d) := by
  have hs : gather_S4x64x64x8x64_S64x8x1_S4x64x8x64x8x64_0345_1_n_n_1_2_4164864.siIdx (ix6 B r a c h d) ⟨0, Nat.one_pos⟩ = ix3 r a 0 := by
    funext b; refine Fin.ext ?_
    match b with
    | ⟨0, _⟩ => rfl
    | ⟨1, _⟩ => rfl
    | ⟨2, _⟩ => rfl
  refine congrArg x ?_
  funext b
  refine Fin.ext ?_
  match b with
  | ⟨0, _⟩ => exact Nat.zero_add (B : ℕ)
  | ⟨1, _⟩ => exact congrArg (fun i => min (idx i).toInt.toNat 63) hs
  | ⟨2, _⟩ => exact Nat.zero_add (c : ℕ)
  | ⟨3, _⟩ => exact Nat.zero_add (h : ℕ)
  | ⟨4, _⟩ => exact Nat.zero_add (d : ℕ)

/-- The gather of the biases: row `r` takes those of its offset in its window. -/
theorem gather_offs {α : Type} (x : S8x8x64x512.Idx → α) (idx : IVec S64x1 32) (h : Fin 8) (r j : Fin 64) (k : Fin 512) :
    Host.gather gather_S8x8x64x512_S64x1_S8x64x64x512_023_1_n_n_1_1_8164512 x idx (ix4 h r j k)
      = x (ix4 h ⟨min (idx (ix2 r 0)).toInt.toNat 7, by omega⟩ j k) := by
  have hs : gather_S8x8x64x512_S64x1_S8x64x64x512_023_1_n_n_1_1_8164512.siIdx (ix4 h r j k) ⟨0, Nat.one_pos⟩ = ix2 r 0 := by
    funext b; refine Fin.ext ?_
    match b with
    | ⟨0, _⟩ => rfl
    | ⟨1, _⟩ => rfl
  refine congrArg x ?_
  funext b
  refine Fin.ext ?_
  match b with
  | ⟨0, _⟩ => exact Nat.zero_add (h : ℕ)
  | ⟨1, _⟩ => exact congrArg (fun i => min (idx i).toInt.toNat 7) hs
  | ⟨2, _⟩ => exact Nat.zero_add (j : ℕ)
  | ⟨3, _⟩ => exact Nat.zero_add (k : ℕ)

/-- The tables of the windows' rows and of the rows' offsets, as the program has them. -/
def tabRows : IVec S64x8x1 32 :=
  broadcastInDim S64x8x1 ![0, 1] bcast_S64x8_S64x8x1_0_1 (select (constantI S64x8 1 0#1) (addi ((fun i => lit0 (S64x8.rowMajor i))) (broadcastInDim S64x8 ![] bcast_S_S64x8 (constantI S_ 32 64#32))) ((fun i => lit0 (S64x8.rowMajor i))))
def tabOffs : IVec S64x1 32 :=
  broadcastInDim S64x1 ![0] bcast_S64_S64x1_0 (select (constantI S64 1 0#1) (addi ((fun i => lit1 (S64.rowMajor i))) (broadcastInDim S64 ![] bcast_S_S64 (constantI S_ 32 8#32))) ((fun i => lit1 (S64.rowMajor i))))

theorem rows_eq : ∀ (r : Fin 64) (a : Fin 8), min (tabRows (ix3 r a 0)).toInt.toNat 63 = min ((r : ℕ) - 4) 56 + a := by decide +kernel
theorem offs_eq : ∀ r : Fin 64, min (tabOffs (ix2 r 0)).toInt.toNat 7 = (r : ℕ) - min ((r : ℕ) - 4) 56 := by decide +kernel

/-- The 512 keys of every row. -/
def win (x : FVec Ideal S4x64x64x8x64 .f32) : FVec Ideal S4x64x512x8x64 .f32 :=
  shapeCast S4x64x512x8x64 (Host.gather gather_S4x64x64x8x64_S64x8x1_S4x64x8x64x8x64_0345_1_n_n_1_2_4164864 x tabRows) shapeCasts_S4x64x8x64x8x64_S4x64x512x8x64

theorem win_apply (x : FVec Ideal S4x64x64x8x64 .f32) (B : Fin 4) (r : Fin 64) (k : Fin 512) (h : Fin 8) (d : Fin 64) :
    win x (ix5 B r k h d) = x (ix5 B ⟨start r + k / 64, by have := start_le r; omega⟩ ⟨k % 64, by omega⟩ h d) := by
  refine (shapeCast_apply _ shapeCasts_S4x64x8x64x8x64_S4x64x512x8x64 _ (ix6 B r ⟨k / 64, by omega⟩ ⟨k % 64, by omega⟩ h d) ?_).trans ?_
  · rw [Shape.rowMajor_val_six, Shape.rowMajor_val_five]
    show (((((B : ℕ) * 64 + r) * 8 + (k : ℕ) / 64) * 64 + (k : ℕ) % 64) * 8 + h) * 64 + d = ((((B : ℕ) * 64 + r) * 512 + k) * 8 + h) * 64 + d
    omega
  · rw [gather_rows]
    exact congrArg x (congrArg (fun a => ix5 B a ⟨k % 64, by omega⟩ h d) (Fin.ext (rows_eq r ⟨k / 64, by omega⟩)))

variable (p : Vec Ideal S16384x5120 .bf16) (b : Vec Ideal S2x8x8x64x512 .f32)

/-- Queries, keys, values and gates, by batch, row, column, head and lane. -/
def qq : FVec Ideal S4x64x64x8x64 .f32 := shapeCast _ (extractStridedSlice S4x64x64x512 ![0, 0, 0, 1024] (shapeCast _ (extf .f32 p bitsLt_bf16_f32) shapeCasts_S16384x5120_S4x64x64x5120) slices_S4x64x64x5120_S4x64x64x512_0_0_0_1024) shapeCasts_S4x64x64x512_S4x64x64x8x64
def kk : FVec Ideal S4x64x64x8x64 .f32 := shapeCast _ (extractStridedSlice S4x64x64x512 ![0, 0, 0, 1536] (shapeCast _ (extf .f32 p bitsLt_bf16_f32) shapeCasts_S16384x5120_S4x64x64x5120) slices_S4x64x64x5120_S4x64x64x512_0_0_0_1536) shapeCasts_S4x64x64x512_S4x64x64x8x64
def vv : FVec Ideal S4x64x64x8x64 .f32 := shapeCast _ (extractStridedSlice S4x64x64x512 ![0, 0, 0, 2048] (shapeCast _ (extf .f32 p bitsLt_bf16_f32) shapeCasts_S16384x5120_S4x64x64x5120) slices_S4x64x64x5120_S4x64x64x512_0_0_0_2048) shapeCasts_S4x64x64x512_S4x64x64x8x64
def zz : FVec Ideal S4x64x64x8x64 .f32 := shapeCast _ (extractStridedSlice S4x64x64x512 ![0, 0, 0, 2560] (shapeCast _ (extf .f32 p bitsLt_bf16_f32) shapeCasts_S16384x5120_S4x64x64x5120) slices_S4x64x64x5120_S4x64x64x512_0_0_0_2560) shapeCasts_S4x64x64x512_S4x64x64x8x64

theorem qq_apply (B : Fin 4) (r j : Fin 64) (h : Fin 8) (d : Fin 64) :
    qq p (ix5 B r j h d) = p (ix2 ⟨4096 * B + 64 * r + j, by omega⟩ ⟨1024 + 64 * h + d, by omega⟩) := by
  pointwise [qq]
  blk_ext
theorem kk_apply (B : Fin 4) (r j : Fin 64) (h : Fin 8) (d : Fin 64) :
    kk p (ix5 B r j h d) = p (ix2 ⟨4096 * B + 64 * r + j, by omega⟩ ⟨1536 + 64 * h + d, by omega⟩) := by
  pointwise [kk]
  blk_ext
theorem vv_apply (B : Fin 4) (r j : Fin 64) (h : Fin 8) (d : Fin 64) :
    vv p (ix5 B r j h d) = p (ix2 ⟨4096 * B + 64 * r + j, by omega⟩ ⟨2048 + 64 * h + d, by omega⟩) := by
  pointwise [vv]
  blk_ext
theorem zz_apply (B : Fin 4) (r j : Fin 64) (h : Fin 8) (d : Fin 64) :
    zz p (ix5 B r j h d) = p (ix2 ⟨4096 * B + 64 * r + j, by omega⟩ ⟨2560 + 64 * h + d, by omega⟩) := by
  pointwise [zz]
  blk_ext

/-- The biases of every row and head, no longer in units of log 2. -/
def bias : FVec Ideal S64x8x64x512 .f32 :=
  transpose S64x8x64x512 [1, 0, 2, 3] (mulf (Host.gather gather_S8x8x64x512_S64x1_S8x64x64x512_023_1_n_n_1_1_8164512 (shapeCast S8x8x64x512 (extractStridedSlice S1x8x8x64x512 ![0, 0, 0, 0, 0] b slices_S2x8x8x64x512_S1x8x8x64x512_0_0_0_0_0) shapeCasts_S1x8x8x64x512_S8x8x64x512) tabOffs) (broadcastInDim S8x64x64x512 ![] bcast_S_S8x64x64x512 (Host.log (constant (F := Ideal) S_ .f32 0x40000000#32)))) transposes_S8x64x64x512_S64x8x64x512_1_0_2_3

theorem bias_apply (r : Fin 64) (h : Fin 8) (j : Fin 64) (k : Fin 512) :
    bias b (ix4 r h j k) = b (ix5 0 h ⟨r - start r, by rw [start]; omega⟩ j k) * ((Real.log 2 : ℝ) : EReal) := by
  have e : ∀ o : Fin 8, shapeCast S8x8x64x512 (extractStridedSlice S1x8x8x64x512 ![0, 0, 0, 0, 0] b slices_S2x8x8x64x512_S1x8x8x64x512_0_0_0_0_0) shapeCasts_S1x8x8x64x512_S8x8x64x512 (ix4 h o j k) = b (ix5 0 h o j k) := by
    intro o
    pointwise
    blk_ext
  have l : Ideal.log (Ideal.ofBits .f32 0x40000000#32) = ((Real.log 2 : ℝ) : EReal) := by
    rw [show Ideal.ofBits .f32 0x40000000#32 = ((2 : ℝ) : EReal) by simp [Ideal.ofBits, Ideal.ieee, -EReal.coe_mul]; norm_num]
    show (if (2 : ℝ) ≤ 0 then (⊥ : EReal) else ((Real.log 2 : ℝ) : EReal)) = _
    rw [if_neg (by norm_num)]
  pointwise [bias]
  rw [gather_offs, e, l]
  exact congrArg (fun o => b (ix5 0 h o j k) * _) (Fin.ext (offs_eq r))

/-- The logits. -/
def logit : FVec Ideal S4x64x8x64x512 .f32 :=
  addf (Host.dotGeneral dot_S4x64x64x8x64_S4x64x512x8x64_S4x64x8x64x512_4_4_2_2_013_013 none (mulf (qq p) (broadcastInDim S4x64x64x8x64 ![] bcast_S_S4x64x64x8x64 (constant S_ .f32 0x3E000000#32))) (win (kk p))) (broadcastInDim S4x64x8x64x512 ![0, 1, 2, 3, 4] bcast_S1x64x8x64x512_S4x64x8x64x512_0_1_2_3_4 (broadcastInDim S1x64x8x64x512 ![1, 2, 3, 4] bcast_S64x8x64x512_S1x64x8x64x512_1_2_3_4 (bias b)))

theorem eighth : Ideal.ofBits .f32 0x3E000000#32 = ((1 / 8 : ℝ) : EReal) := by
  simp [Ideal.ofBits, Ideal.ieee, -EReal.coe_mul]; norm_num

theorem logit_apply (B : Fin 4) (r : Fin 64) (h : Fin 8) (j : Fin 64) (k : Fin 512) :
    logit p b (ix5 B r h j k) = ∑ d : Fin 64, qq p (ix5 B r j h d) * ((1 / 8 : ℝ) : EReal) * win (kk p) (ix5 B r k h d) + bias b (ix4 r h j k) := by
  pointwise [logit]
  rw [eighth]

/-- The weights before they are normalised. -/
def wts (L : FVec Ideal S4x64x8x64x512 .f32) : FVec Ideal S4x64x8x64x512 .f32 :=
  Host.exp (subf L (broadcastInDim S4x64x8x64x512 ![0, 1, 2, 3, 4] bcast_S4x64x8x64x1_S4x64x8x64x512_0_1_2_3_4 (broadcastInDim S4x64x8x64x1 ![0, 1, 2, 3] bcast_S4x64x8x64_S4x64x8x64x1_0_1_2_3 (Host.reduce FloatOps.maximumf L (constant S_ .f32 0xFF800000#32) reducesTo_S4x64x8x64x512_S4x64x8x64_d4 h_S_))))

theorem wts_apply (L : FVec Ideal S4x64x8x64x512 .f32) (B : Fin 4) (r : Fin 64) (h : Fin 8) (j : Fin 64) (k : Fin 512) :
    wts L (ix5 B r h j k) = Softmax.wt (fun k => L (ix5 B r h j k)) k := by
  have n : Ideal.ofBits .f32 0xFF800000#32 = ⊥ := by simp [Ideal.ofBits, Ideal.ieee]
  pointwise [wts, Softmax.wt]
  rw [n]

/-- The reference's result from its weights. -/
def res (E : FVec Ideal S4x64x8x64x512 .f32) (V : FVec Ideal S4x64x512x8x64 .f32) (Z : FVec Ideal S4x64x64x8x64 .f32) : FVec Ideal S16384x512 .bf16 :=
  truncf .bf16 (shapeCast _ (mulf (transpose S4x64x64x8x64 [0, 1, 4, 2, 3] (Host.dotGeneral dot_S4x64x512x8x64_S4x64x8x64x512_S4x64x8x64x64_2_4_4_3_013_012 none V (mulf E (broadcastInDim S4x64x8x64x512 ![0, 1, 2, 3, 4] bcast_S4x64x8x64x1_S4x64x8x64x512_0_1_2_3_4 (Host.divf (broadcastInDim S4x64x8x64x1 ![] bcast_S_S4x64x8x64x1 (constant S_ .f32 0x3F800000#32)) (broadcastInDim S4x64x8x64x1 ![0, 1, 2, 3] bcast_S4x64x8x64_S4x64x8x64x1_0_1_2_3 (Host.reduceAdd E (constant S_ .f32 0x00000000#32) reducesTo_S4x64x8x64x512_S4x64x8x64_d4 h_S_)))))) transposes_S4x64x8x64x64_S4x64x64x8x64_0_1_4_2_3) (mulf Z (Host.divf (broadcastInDim S4x64x64x8x64 ![] bcast_S_S4x64x64x8x64 (constant S_ .f32 0x3F800000#32)) (addf (broadcastInDim S4x64x64x8x64 ![] bcast_S_S4x64x64x8x64 (constant S_ .f32 0x3F800000#32)) (Host.exp (Host.negf Z)))))) shapeCasts_S4x64x64x8x64_S16384x512) bitsLt_bf16_f32

theorem res_apply (E : FVec Ideal S4x64x8x64x512 .f32) (V : FVec Ideal S4x64x512x8x64 .f32) (Z : FVec Ideal S4x64x64x8x64 .f32) (B : Fin 4) (r j : Fin 64) (h : Fin 8) (d : Fin 64) :
    res E V Z (ix2 ⟨4096 * B + 64 * r + j, by omega⟩ ⟨64 * h + d, by omega⟩)
      = (∑ k : Fin 512, V (ix5 B r k h d) * (E (ix5 B r h j k) * Ideal.div 1 (∑ k : Fin 512, E (ix5 B r h j k)))) * (Z (ix5 B r j h d) * sg (Z (ix5 B r j h d))) := by
  pointwise [res]
  rfl

variable (m : (ℓ : Loc nD τ sig) → Buf (Elt Ideal) ℓ)

theorem res_form (c : Dev nD) : Value.res_main_v55 (F := Ideal) m c
    = res (wts (logit (m ((c.tc : Thread nD τ).loc main_arg0)) (m ((c.tc : Thread nD τ).loc main_arg1)))) (win (vv (m ((c.tc : Thread nD τ).loc main_arg0)))) (zz (m ((c.tc : Thread nD τ).loc main_arg0))) := rfl

/-- A row's logit in terms of the projections and the biases. -/
theorem logit_out (B : Fin 4) (r j : Fin 64) (h : Fin 8) (k : Fin 512) :
    logit p b (ix5 B r h j k) = ∑ d : Fin 64, pd p (4096 * B + 64 * r + j) (1024 + 64 * h + d) * ((1 / 8 : ℝ) : EReal)
        * pd p (4096 * B + 64 * start r + k) (1536 + 64 * h + d) + bd b h (r - start r) j k * ((Real.log 2 : ℝ) : EReal) := by
  have hs := start_le r
  rw [logit_apply, bias_apply, bd, dif_pos ⟨h.isLt, by rw [start]; omega⟩]
  refine congrArg (· + _) (Finset.sum_congr rfl fun d _ => ?_)
  rw [qq_apply, win_apply, kk_apply, pd, dif_pos (by omega), pd, dif_pos (by omega)]
  refine congrArg (fun n => _ * p (ix2 n _)) (Fin.ext ?_)
  show 4096 * (B : ℕ) + 64 * (start r + k / 64) + k % 64 = 4096 * B + 64 * start r + k
  omega

/-- The reference's result is the neighbourhood attention. -/
theorem res_eq (c : Dev nD) : Value.res_main_v55 (F := Ideal) m c
    = fun y => out (m ((c.tc : Thread nD τ).loc main_arg0)) (m ((c.tc : Thread nD τ).loc main_arg1)) (y 0) (y 1) := by
  rw [res_form]
  generalize m ((c.tc : Thread nD τ).loc main_arg0) = p
  generalize m ((c.tc : Thread nD τ).loc main_arg1) = b
  funext y
  obtain ⟨B, r, j, h, d, rfl⟩ : ∃ (B : Fin 4) (r j : Fin 64) (h : Fin 8) (d : Fin 64),
      y = ix2 ⟨4096 * B + 64 * r + j, by omega⟩ ⟨64 * h + d, by omega⟩ := by
    have h0 : (y 0 : ℕ) < 16384 := (y 0).isLt
    have h1 : (y 1 : ℕ) < 512 := (y 1).isLt
    refine ⟨⟨y 0 / 4096, by omega⟩, ⟨y 0 / 64 % 64, by omega⟩, ⟨y 0 % 64, by omega⟩, ⟨y 1 / 64, by omega⟩, ⟨y 1 % 64, by omega⟩, ?_⟩
    funext a
    fin_cases a
    · exact Fin.ext (by show (y 0 : ℕ) = 4096 * (y 0 / 4096) + 64 * (y 0 / 64 % 64) + y 0 % 64; omega)
    · exact Fin.ext (by show (y 1 : ℕ) = 64 * (y 1 / 64) + y 1 % 64; omega)
  rw [res_apply]
  show _ = out p b (4096 * B + 64 * r + j) (64 * h + d)
  have e0 : (4096 * (B : ℕ) + 64 * r + j) / 4096 = B := by omega
  have e1 : (4096 * (B : ℕ) + 64 * r + j) / 64 % 64 = r := by omega
  have e2 : (64 * (h : ℕ) + d) / 64 = h := by omega
  have e3 : (⟨(4096 * (B : ℕ) + 64 * r + j) % 64, by omega⟩ : Fin 64) = j := Fin.ext (by show _ % 64 = _; omega)
  have z : zz p (ix5 B r j h d) = pd p (4096 * B + 64 * r + j) (2560 + (64 * h + d)) := by
    rw [zz_apply, pd, dif_pos (by omega)]
    exact congrArg (fun a => p (ix2 _ a)) (Fin.ext (by show 2560 + 64 * (h : ℕ) + d = 2560 + (64 * h + d); omega))
  have v : ∀ k : Fin 512, win (vv p) (ix5 B r k h d) = pd p (4096 * B + 64 * start r + k) (2048 + (64 * h + d)) := by
    intro k
    have hs := start_le r
    rw [win_apply, vv_apply, pd, dif_pos (by omega)]
    refine congrArg p (congrArg₂ ix2 (Fin.ext ?_) (Fin.ext ?_))
    · show 4096 * (B : ℕ) + 64 * (start r + k / 64) + k % 64 = 4096 * B + 64 * start r + k
      omega
    · show 2048 + 64 * (h : ℕ) + d = 2048 + (64 * h + d)
      omega
  rw [out, e0, e1, e2, e3, z]
  refine congrArg (· * _) ?_
  rw [Softmax.mean]
  simp only [v, wts_apply, logit_out]

end Cert.ReferenceIdeal.NA
-- ==== Proof.BiasTile.lean ====
/-
The table of biases of the neighbourhood attention: what a grid point writes.
-/
module

public import proofs.«01_k».proof.Proof.Gen.Kernel2Ideal.Value
public import Idealize.ShloMosaic.Lib.Pipeline.ValueKit

@[expose] public section

set_option maxRecDepth 16384

noncomputable section

namespace Cert.Kernel2Ideal.Bias

open Idealize.ShloMosaic Idealize.ShloMosaic.TcCoe Idealize.SL.Sem Cert.Kernel2Ideal Cert.Kernel2Ideal.Gen

/-- Key column `c` lies in the window of query column `j`. -/
def inw (j c : ℕ) : Prop := min (j - 8) 48 ≤ c ∧ c < min (j - 8) 48 + 16
instance (j c : ℕ) : Decidable (inw j c) := by unfold inw; infer_instance

theorem valid_iff : ∀ (j : Fin 64) (l : Fin 128), k0_pay2 (ix2 j l) = 1#1 ↔ inw j (l % 64) := by decide +kernel
theorem near_iff : ∀ l : Fin 128, k0_pay3 (ix2 0 l) = 1#1 ↔ ((l : ℕ) < 32 ∨ 96 ≤ (l : ℕ)) := by decide +kernel

/-- Two rows of relative biases side by side, for every query column rotated to where it reads them. -/
def tile (u w : Vec Ideal S1x1x1x128 .f32) : FVec Ideal S64x128 .f32 :=
  dynamicRotate 1 0#32 (some (1, 0)) (broadcastTo S64x128 (shapeCast S1x128 (select k0_pay3
    (dynamicRotate 1 113#32 none (shapeCast S1x128 u shapeCasts_S1x1x1x128_S1x128) rotates_S1x128_d1)
    (dynamicRotate 1 64#32 none (dynamicRotate 1 113#32 none (shapeCast S1x128 w shapeCasts_S1x1x1x128_S1x128) rotates_S1x128_d1) rotates_S1x128_d1))
    shapeCasts_S1x128_S1x128) broadcasts_S1x128_S64x128) rotates_S64x128_d1s1a0

/-- What is stored of it: in units of log 2, with −∞ outside the windows. -/
def piece (t : FVec Ideal S64x128 .f32) : FVec Ideal S1x1x1x64x128 .f32 :=
  shapeCast S1x1x1x64x128 (select k0_pay2 (mulf t (broadcast S64x128 (Named.named κ "log2e" 0x3FB8AA3B#32))) (broadcast S64x128 (Named.named κ "mask" 0xF149F2CA#32))) shapeCasts_S64x128_S1x1x1x64x128

theorem piece_apply (t : FVec Ideal S64x128 .f32) (j : Fin 64) (l : Fin 128) :
    piece t (ix5 0 0 0 j l) = if inw j (l % 64) then t (ix2 j l) * (((Real.log 2)⁻¹ : ℝ) : EReal) else ⊥ := by
  pointwise [piece]
  rw [show Named.named (F := Ideal) κ "log2e" (φ := .f32) 0x3FB8AA3B#32 = (((Real.log 2)⁻¹ : ℝ) : EReal) from
      IdealRules.named_const.ideal_named_scalar _ _ _ _ rfl,
    show Named.named (F := Ideal) κ "mask" (φ := .f32) 0xF149F2CA#32 = ⊥ from IdealRules.named_const.ideal_named_scalar _ _ _ _ rfl]
  exact if_congr (valid_iff j l) rfl rfl

theorem tile_apply (u w : Vec Ideal S1x1x1x128 .f32) (j : Fin 64) (l : Fin 128) (h : inw j (l % 64)) :
    tile u w (ix2 j l) = if (l : ℕ) < 64 then u (ix4 0 0 0 ⟨(l % 64 + 15 - j) % 128, by omega⟩) else w (ix4 0 0 0 ⟨(l % 64 + 15 - j) % 128, by omega⟩) := by
  unfold inw at h
  pointwise [tile]
  refine (if_congr (near_iff _) rfl rfl).trans ?_
  by_cases hl : (l : ℕ) < 64
  · rw [if_pos (by dsimp only; omega), if_pos hl]
    exact congrArg u (congrArg (ix4 0 0 0) (Fin.ext (by dsimp only; omega)))
  · rw [if_neg (by dsimp only; omega), if_neg hl]
    exact congrArg w (congrArg (ix4 0 0 0) (Fin.ext (by dsimp only; omega)))

/-- Row `n`, lane `l` of a block; nothing lies outside. -/
def rd (x : Vec Ideal S1x1x16x128 .f32) (n l : ℕ) : EReal := if h : n < 16 ∧ l < 128 then x (ix4 0 0 ⟨n, h.1⟩ ⟨l, h.2⟩) else 0

/-- The biases at row offset `v`, query column `j`, key `k`. -/
def tab (x : Vec Ideal S1x1x16x128 .f32) (v j k : ℕ) : EReal :=
  if inw j (k % 64) then rd x (k / 64 + 7 - v) (k % 64 + 15 - j) * (((Real.log 2)⁻¹ : ℝ) : EReal) else ⊥

theorem ld_rd (x : Vec Ideal S1x1x16x128 .f32) {o : ℕ} (h : ∀ a, (![0, 0, o, 0] : Fin 4 → ℕ) a + (![1, 1, 1, 128] : Fin 4 → ℕ) a ≤ S1x1x16x128.size a) (l : Fin 128) :
    View.ld x (Rect.unit ![0, 0, o, 0] ![1, 1, 1, 128] h) (ix4 0 0 0 l) = rd x o l := by
  have hi : o < 16 := by have := h 2; simp at this; omega
  rw [rd, dif_pos ⟨hi, l.isLt⟩]
  refine congrArg x ?_
  funext a; fin_cases a
  · exact Fin.ext rfl
  · exact Fin.ext rfl
  · exact Fin.ext rfl
  · exact Fin.ext (by show 0 + 1 * (l : ℕ) = l; omega)

/-- A piece at row offset `v`, from key `128 i`. -/
theorem piece_of (x0 : Vec Ideal S1x1x16x128 .f32) (y : S1x1x8x64x512.Idx) (x : S1x1x1x64x128.Idx) {o o' v i : ℕ} {t : FVec Ideal S64x128 .f32}
    {ho : ∀ a, (![0, 0, o, 0] : Fin 4 → ℕ) a + (![1, 1, 1, 128] : Fin 4 → ℕ) a ≤ S1x1x16x128.size a}
    {ho' : ∀ a, (![0, 0, o', 0] : Fin 4 → ℕ) a + (![1, 1, 1, 128] : Fin 4 → ℕ) a ≤ S1x1x16x128.size a}
    (ht : t = tile (View.ld x0 (Rect.unit ![0, 0, o, 0] ![1, 1, 1, 128] ho)) (View.ld x0 (Rect.unit ![0, 0, o', 0] ![1, 1, 1, 128] ho')))
    (hv : (y 2 : ℕ) = v + x 2) (hj : (y 3 : ℕ) = x 3) (hk : (y 4 : ℕ) = i + x 4) (hi : i % 128 = 0)
    (h0 : o + v = i / 64 + 7) (h1 : o' = o + 1) :
    piece t x = tab x0 (y 2) (y 3) (y 4) := by
  obtain ⟨j, l, rfl⟩ : ∃ (j : Fin 64) (l : Fin 128), x = ix5 0 0 0 j l :=
    ⟨x 3, x 4, by funext a; fin_cases a <;> first | exact Fin.ext (Nat.lt_one_iff.1 (x _).isLt) | rfl⟩
  have hv : (y 2 : ℕ) = v := hv
  have hj : (y 3 : ℕ) = j := hj
  have hk : (y 4 : ℕ) = i + l := hk
  subst ht h1
  have e : (i + (l : ℕ)) % 64 = l % 64 := by omega
  rw [piece_apply, tab, hj, hk, hv, e]
  by_cases h : inw j (l % 64)
  · have hc : (l : ℕ) % 64 + 15 - j < 128 := by omega
    rw [if_pos h, if_pos h, tile_apply _ _ _ _ h]
    refine congrArg (· * _) ?_
    split
    · rw [ld_rd]
      refine congrArg₂ (rd x0) (by omega) (Nat.mod_eq_of_lt hc)
    · rw [ld_rd]
      refine congrArg₂ (rd x0) (by omega) (Nat.mod_eq_of_lt hc)
  · rw [if_neg h, if_neg h]

set_option maxHeartbeats 1000000 in
/-- A grid point writes the biases of its head: 32 pieces, each read by the one lemma on pieces. -/
theorem block (x0 : Vec Ideal S1x1x16x128 .f32) (y : S1x1x8x64x512.Idx) : out0_1 (F := Ideal) x0 y = tab x0 (y 2) (y 3) (y 4) := by
  canon_tiles x h
  all_goals
    apply piece_of x0 y x
    case ht => rfl
    case hv => first | exact h2 | exact h2.trans (Nat.zero_add _).symm
    case hj => exact h3
    case hk => first | exact h4 | exact h4.trans (Nat.zero_add _).symm
    all_goals rfl

end Cert.Kernel2Ideal.Bias
-- ==== Proof.BiasOut.lean ====
/-
The table of biases of the neighbourhood attention: the array the kernel leaves.
-/
module

public import proofs.«01_k».proof.Proof.BiasTile

@[expose] public section

set_option maxRecDepth 16384

noncomputable section

namespace Cert.Kernel2Ideal.Bias

open Idealize.ShloMosaic Idealize.ShloMosaic.TcCoe Idealize.SL.Sem Cert.Kernel2Ideal Cert.Kernel2Ideal.Gen

/-- The relative biases of layer `L`, head `h` at relative row `n`, relative column `a`; nothing lies outside. -/
def bv (p : Vec Ideal S2x8x15x31 .f32) (L : Fin 2) (h : Fin 8) (n a : ℕ) : EReal :=
  if ha : n < 15 ∧ a < 31 then p (ix4 L h ⟨n, ha.1⟩ ⟨a, ha.2⟩) else 0

/-- The table at row offset `v`, query column `j`, key `k`: in units of log 2, with −∞ outside the windows. -/
def out (p : Vec Ideal S2x8x15x31 .f32) (L : Fin 2) (h : Fin 8) (v j k : ℕ) : EReal :=
  if inw j (k % 64) then bv p L h (k / 64 + 7 - v) (k % 64 + 15 - j) * (((Real.log 2)⁻¹ : ℝ) : EReal) else ⊥

variable (m : (ℓ : Loc nD τ sig) → Buf (Elt Ideal) ℓ)

theorem idx : ∀ t : Fin cfg0.N, win0_0.index t = ![t.val / 8, t.val % 8, 0, 0] ∧ win0_1.index t = ![t.val / 8, t.val % 8, 0, 0, 0] :=
  (by decide +kernel : ∀ t : Fin grid0.N, _)

theorem lt16 (t : Fin cfg0.N) : t.val < 16 := lt_of_lt_of_eq t.isLt N_0

theorem pad_at (p : Vec Ideal S2x8x15x31 .f32) (z : FVec Ideal S_ .f32) (L : Fin 2) (h : Fin 8) {n a : ℕ} (hn : n < 15) (ha : a < 31) :
    pad S2x8x16x128 ![0, 0, 0, 0] ![0, 0, 1, 97] ![0, 0, 0, 0] p z pads_S2x8x15x31_S2x8x16x128_000_000_010_0970 h_S_ (ix4 L h ⟨n, by omega⟩ ⟨a, by omega⟩)
      = p (ix4 L h ⟨n, hn⟩ ⟨a, ha⟩) := by
  have e : ∀ x : ℕ, (x - 0) / (0 + 1) = x := fun x => by omega
  have hi : ∀ x y : ℕ, x < y → 0 ≤ x ∧ (x - 0) % (0 + 1) = 0 ∧ (x - 0) / (0 + 1) < y := fun x y hx => by rw [e]; omega
  rw [pad_apply, dif_pos, Shape.Idx.norm_def]
  · refine congrArg p ?_
    funext b
    match b with
    | ⟨0, _⟩ => exact Fin.ext (e L)
    | ⟨1, _⟩ => exact Fin.ext (e h)
    | ⟨2, _⟩ => exact Fin.ext (e n)
    | ⟨3, _⟩ => exact Fin.ext (e a)
  · intro b
    match b with
    | ⟨0, _⟩ => exact hi L 2 L.isLt
    | ⟨1, _⟩ => exact hi h 8 h.isLt
    | ⟨2, _⟩ => exact hi n 15 hn
    | ⟨3, _⟩ => exact hi a 31 ha

/-- The region finds the relative biases padded to a register. -/
theorem V_main_v0 (c : Dev nD) : V m c main_v0
    = pad S2x8x16x128 ![0, 0, 0, 0] ![0, 0, 1, 97] ![0, 0, 0, 0] (m ((c : Thread nD τ).loc main_arg0)) (sitofp (F := Ideal) .f32 (constantI S_ 32 0#32)) pads_S2x8x15x31_S2x8x16x128_000_000_010_0970 h_S_ := by
  simp only [V, hostOps0, hostOps0_1, List.flatten_cons, List.flatten_nil, List.append_nil, List.cons_append, List.nil_append,
    StableHlo.TRef.binary, StableHlo.TRef.unary, StableHlo.TRef.toBuf, StableHlo.TRef.ofBuf, cast_eq]
  after_results <;> rfl

theorem rd_blk (c : Dev nD) (t : Fin cfg0.N) (n a : ℕ) (hn : n < 15) (ha : a < 31) :
    rd (iblk m c 0 t) n a = bv (m ((c : Thread nD τ).loc main_arg0)) ⟨t.val / 8, by have := lt16 t; omega⟩ ⟨t.val % 8, by omega⟩ n a := by
  have := lt16 t
  rw [rd, dif_pos (by omega), bv, dif_pos ⟨hn, ha⟩]
  trans pad S2x8x16x128 ![0, 0, 0, 0] ![0, 0, 1, 97] ![0, 0, 0, 0] (m ((c : Thread nD τ).loc main_arg0)) (sitofp (F := Ideal) .f32 (constantI S_ 32 0#32)) pads_S2x8x15x31_S2x8x16x128_000_000_010_0970 h_S_
      (ix4 ⟨t.val / 8, by omega⟩ ⟨t.val % 8, by omega⟩ ⟨n, by omega⟩ ⟨a, by omega⟩)
  · rw [← V_main_v0]
    blk_point [iblk, idx t]
  · exact pad_at _ _ _ _ hn ha

theorem tab_blk (c : Dev nD) (t : Fin cfg0.N) (v j k : ℕ) (hv : v < 8) (hk : k < 512) :
    tab (iblk m c 0 t) v j k = out (m ((c : Thread nD τ).loc main_arg0)) ⟨t.val / 8, by have := lt16 t; omega⟩ ⟨t.val % 8, by omega⟩ v j k := by
  rw [tab, out]
  by_cases h : inw j (k % 64)
  · rw [if_pos h, if_pos h]
    unfold inw at h
    rw [rd_blk m c t _ _ (by omega) (by omega)]
  · rw [if_neg h, if_neg h]

/-- The array the kernel leaves. -/
theorem final (c : Dev nD) : (dats m 0 c).arrAt 1 cfg0.N
    = fun y : S2x8x8x64x512.Idx => out (m ((c : Thread nD τ).loc main_arg0)) (y 0) (y 1) (y 2) (y 3) (y 4) := by
  refine (dats m 0 c).arrAt_eq_of_covers 1 _ (by decide +kernel) fun t hf y => ?_
  blk_simp
  rw [after0_1, block]
  have y0 : (y 0 : ℕ) < 1 := (y 0).isLt
  have y1 : (y 1 : ℕ) < 1 := (y 1).isLt
  refine (tab_blk m c t (y 2) (y 3) (y 4) (y 2).isLt (y 4).isLt).trans ?_
  congr 1
  · refine Fin.ext ?_
    blk_simp [idx t]
  · refine Fin.ext ?_
    blk_simp [idx t]
  all_goals simp [idx t]

end Cert.Kernel2Ideal.Bias
-- ==== Proof.BiasRef.lean ====
/-
The table of biases of the neighbourhood attention as the reference leaves it, read at an index.
-/
module

public import proofs.«01_k».proof.Proof.Gen.Reference2Ideal.Run
public import proofs.«01_k».proof.Proof.BiasOut
public import Idealize.ShloMosaic.Lib.ValueIdxRank6

@[expose] public section

set_option maxRecDepth 16384

noncomputable section

namespace Cert.Reference2Ideal.Bias

open Cert.Reference2Ideal.Gen Idealize.ShloMosaic Idealize.ShloMosaic.TcCoe Idealize.SL.Sem
open Cert.Kernel2Ideal.Bias (inw bv out)

/-- The gather of the relative rows: row offset `v` and key row `a` take the row their table names. -/
theorem gather_rows {α : Type} (x : S2x8x15x31.Idx → α) (idx : IVec S8x8x1 32) (L : Fin 2) (h v a : Fin 8) (c : Fin 31) :
    Host.gather gather_S2x8x15x31_S8x8x1_S2x8x8x8x31_014_2_n_n_2_2_28131 x idx (ix5 L h v a c)
      = x (ix4 L h ⟨min (idx (ix3 v a 0)).toInt.toNat 14, by omega⟩ c) := by
  have hs : gather_S2x8x15x31_S8x8x1_S2x8x8x8x31_014_2_n_n_2_2_28131.siIdx (ix5 L h v a c) ⟨0, Nat.one_pos⟩ = ix3 v a 0 := by
    funext b; refine Fin.ext ?_
    match b with
    | ⟨0, _⟩ => rfl
    | ⟨1, _⟩ => rfl
    | ⟨2, _⟩ => rfl
  refine congrArg x ?_
  funext b
  refine Fin.ext ?_
  match b with
  | ⟨0, _⟩ => exact Nat.zero_add (L : ℕ)
  | ⟨1, _⟩ => exact Nat.zero_add (h : ℕ)
  | ⟨2, _⟩ => exact congrArg (fun i => min (idx i).toInt.toNat 14) hs
  | ⟨3, _⟩ => exact Nat.zero_add (c : ℕ)

/-- The gather of the relative columns: query column `j` and key column `c` take the column their table names. -/
theorem gather_cols {α : Type} (x : S2x8x8x8x31.Idx → α) (idx : IVec S64x64x1 32) (L : Fin 2) (h v a : Fin 8) (j c : Fin 64) :
    Host.gather gather_S2x8x8x8x31_S64x64x1_S2x8x8x8x64x64_0123_4_n_n_4_2_28881 x idx (ix6 L h v a j c)
      = x (ix5 L h v a ⟨min (idx (ix3 j c 0)).toInt.toNat 30, by omega⟩) := by
  have hs : gather_S2x8x8x8x31_S64x64x1_S2x8x8x8x64x64_0123_4_n_n_4_2_28881.siIdx (ix6 L h v a j c) ⟨0, Nat.one_pos⟩ = ix3 j c 0 := by
    funext b; refine Fin.ext ?_
    match b with
    | ⟨0, _⟩ => rfl
    | ⟨1, _⟩ => rfl
    | ⟨2, _⟩ => rfl
  refine congrArg x ?_
  funext b
  refine Fin.ext ?_
  match b with
  | ⟨0, _⟩ => exact Nat.zero_add (L : ℕ)
  | ⟨1, _⟩ => exact Nat.zero_add (h : ℕ)
  | ⟨2, _⟩ => exact Nat.zero_add (v : ℕ)
  | ⟨3, _⟩ => exact Nat.zero_add (a : ℕ)
  | ⟨4, _⟩ => exact congrArg (fun i => min (idx i).toInt.toNat 30) hs

/-- The tables of the relative rows and columns, as the program has them. -/
def tabRows : IVec S8x8x1 32 :=
  broadcastInDim S8x8x1 ![0, 1] bcast_S8x8_S8x8x1_0_1 (select (constantI S8x8 1 0#1) (addi ((fun i => lit0 (S8x8.rowMajor i))) (broadcastInDim S8x8 ![] bcast_S_S8x8 (constantI S_ 32 15#32))) ((fun i => lit0 (S8x8.rowMajor i))))
def tabCols : IVec S64x64x1 32 :=
  broadcastInDim S64x64x1 ![0, 1] bcast_S64x64_S64x64x1_0_1 (select (constantI S64x64 1 0#1) (addi ((fun i => lit1 (S64x64.rowMajor i))) (broadcastInDim S64x64 ![] bcast_S_S64x64 (constantI S_ 32 31#32))) ((fun i => lit1 (S64x64.rowMajor i))))

theorem rows_eq : ∀ v a : Fin 8, min (tabRows (ix3 v a 0)).toInt.toNat 14 = (a : ℕ) + 7 - v := by decide +kernel
theorem cols_eq : ∀ j c : Fin 64, min (tabCols (ix3 j c 0)).toInt.toNat 30 = min ((c : ℕ) + 15 - j) 30 := by decide +kernel
theorem valid_iff : ∀ j c : Fin 64, lit2 (S64x64.rowMajor (ix2 j c)) = 1#1 ↔ inw j c := by decide +kernel

/-- The reference's table before its axes are brought in order. -/
def val (p : Vec Ideal S2x8x15x31 .f32) : FVec Ideal S2x8x8x8x64x64 .f32 :=
  select (broadcastInDim S2x8x8x8x64x64 ![4, 5] bcast_S64x64_S2x8x8x8x64x64_4_5 ((fun i => lit2 (S64x64.rowMajor i)))) (Host.divf (Host.gather gather_S2x8x8x8x31_S64x64x1_S2x8x8x8x64x64_0123_4_n_n_4_2_28881 (Host.gather gather_S2x8x15x31_S8x8x1_S2x8x8x8x31_014_2_n_n_2_2_28131 p tabRows) tabCols) (broadcastInDim S2x8x8x8x64x64 ![] bcast_S_S2x8x8x8x64x64 (Host.log (constant S_ .f32 0x40000000#32)))) (broadcastInDim S2x8x8x8x64x64 ![] bcast_S_S2x8x8x8x64x64 (id (constant S_ .f32 0xFF800000#32)))

theorem val_apply (p : Vec Ideal S2x8x15x31 .f32) (L : Fin 2) (h v a : Fin 8) (j c : Fin 64) :
    val p (ix6 L h v a j c) = out p L h v j (64 * a + c) := by
  have l : Ideal.log (Ideal.ofBits .f32 0x40000000#32) = ((Real.log 2 : ℝ) : EReal) := by
    rw [show Ideal.ofBits .f32 0x40000000#32 = ((2 : ℝ) : EReal) by simp [Ideal.ofBits, Ideal.ieee, -EReal.coe_mul]; norm_num]
    show (if (2 : ℝ) ≤ 0 then (⊥ : EReal) else ((Real.log 2 : ℝ) : EReal)) = _
    rw [if_neg (by norm_num)]
  have n : Ideal.ofBits .f32 0xFF800000#32 = ⊥ := by simp [Ideal.ofBits, Ideal.ieee]
  have hl : ((Real.log 2 : ℝ) : EReal) ≠ 0 := by
    rw [Ne, EReal.coe_eq_zero]
    exact (Real.log_pos (by norm_num)).ne'
  have e0 : (64 * (a : ℕ) + c) % 64 = c := by omega
  have e1 : (64 * (a : ℕ) + c) / 64 = a := by omega
  pointwise [val]
  rw [gather_cols, gather_rows, l, out, e0, e1]
  refine (if_congr (valid_iff j c) rfl rfl).trans ?_
  by_cases hw : inw j c
  · rw [if_pos hw, if_pos hw, Ideal.div, if_neg hl, ← EReal.coe_inv]
    unfold inw at hw
    rw [bv, dif_pos (by omega)]
    refine congrArg (fun x => p x * _) (congrArg₂ (ix4 L h) (Fin.ext (rows_eq v a)) (Fin.ext ((cols_eq j c).trans ?_)))
    show min ((c : ℕ) + 15 - j) 30 = c + 15 - j
    omega
  · rw [if_neg hw, if_neg hw]
    exact n

/-- The reference's table. -/
def res (p : Vec Ideal S2x8x15x31 .f32) : FVec Ideal S2x8x8x64x512 .f32 :=
  shapeCast _ (transpose S2x8x8x64x8x64 [0, 1, 2, 4, 3, 5] (val p) transposes_S2x8x8x8x64x64_S2x8x8x64x8x64_0_1_2_4_3_5) shapeCasts_S2x8x8x64x8x64_S2x8x8x64x512

/-- The reference's result is the table. -/
theorem res_eq (p : Vec Ideal S2x8x15x31 .f32) : res p = fun y => out p (y 0) (y 1) (y 2) (y 3) (y 4) := by
  funext y
  obtain ⟨L, h, v, j, k, rfl⟩ : ∃ (L : Fin 2) (h v : Fin 8) (j : Fin 64) (k : Fin 512), y = ix5 L h v j k :=
    ⟨y 0, y 1, y 2, y 3, y 4, by funext a; fin_cases a <;> rfl⟩
  refine (shapeCast_apply _ shapeCasts_S2x8x8x64x8x64_S2x8x8x64x512 _ (ix6 L h v j ⟨k / 64, by omega⟩ ⟨k % 64, by omega⟩) ?_).trans ?_
  · rw [Shape.rowMajor_val_six, Shape.rowMajor_val_five]
    show (((((L : ℕ) * 8 + h) * 8 + v) * 64 + j) * 8 + (k : ℕ) / 64) * 64 + (k : ℕ) % 64 = ((((L : ℕ) * 8 + h) * 8 + v) * 64 + j) * 512 + k
    omega
  · trans val p (ix6 L h v ⟨k / 64, by omega⟩ j ⟨k % 64, by omega⟩)
    · refine congrArg (val p) ?_
      funext a; fin_cases a <;> rfl
    · rw [val_apply]
      exact congrArg (out p L h v j) (by show 64 * ((k : ℕ) / 64) + k % 64 = k; omega)

end Cert.Reference2Ideal.Bias
-- ==== Proof.DilBias.lean ====
/-
The biases of the dilated attention laid out as tiles: what the kernel leaves.
-/
module

public import proofs.«01_k».proof.Proof.Gen.Kernel6Ideal.Value
public import Idealize.ShloMosaic.Lib.Pipeline.ValueKit

@[expose] public section

set_option maxRecDepth 16384

noncomputable section

namespace Cert.Kernel6Ideal.DilBias

open Idealize.ShloMosaic Idealize.ShloMosaic.TcCoe Idealize.SL.Sem Cert.Kernel6Ideal Cert.Kernel6Ideal.Gen

/-- One vector of biases, for every query rotated to where it reads them; the first 256 keys are stored. -/
def piece (u : Vec Ideal S1x1x512 .f32) : FVec Ideal S1x1x1x128x256 .f32 :=
  shapeCast S1x1x1x128x256 (extractStridedSlice S128x256 ![0, 0] (dynamicRotate 1 0#32 (some (1, 0))
    (broadcastTo S128x512 (shapeCast S1x512 (shapeCast S1x512 u shapeCasts_S1x1x512_S1x512) shapeCasts_S1x512_S1x512) broadcasts_S1x512_S128x512)
    rotates_S128x512_d1s1a0) slices_S128x512_o0_0_S128x256) shapeCasts_S128x256_S1x1x1x128x256

theorem piece_apply (u : Vec Ideal S1x1x512 .f32) (i : Fin 128) (k : Fin 256) :
    piece u (ix5 0 0 0 i k) = u (ix3 0 0 ⟨(k + 512 - i) % 512, by omega⟩) := by
  pointwise [piece]
  exact congrArg u (congrArg (ix3 0 0) (Fin.ext (by dsimp only; omega)))

/-- The bias of a block at tile row `p`, tile column `v`, query `i`, key `k`; nothing lies outside. -/
def tab (x : Vec Ideal S1x9x512 .f32) (p v i k : ℕ) : EReal :=
  if h : 3 * p + v < 9 then x (ix3 0 ⟨3 * p + v, h⟩ ⟨(k + 512 - i) % 512, by omega⟩) else 0

/-- The piece of tile row `p`, tile column `v`. -/
theorem piece_of (x0 : Vec Ideal S1x9x512 .f32) (y : S1x3x3x128x256.Idx) (x : S1x1x1x128x256.Idx) {o p v : ℕ} {t : FVec Ideal S1x1x1x128x256 .f32}
    {ho : ∀ a, (![0, o, 0] : Fin 3 → ℕ) a + (![1, 1, 512] : Fin 3 → ℕ) a ≤ S1x9x512.size a}
    (ht : t = piece (View.ld x0 (Rect.unit ![0, o, 0] ![1, 1, 512] ho)))
    (hp : (y 1 : ℕ) = p + x 1) (hv : (y 2 : ℕ) = v + x 2) (hi : (y 3 : ℕ) = x 3) (hk : (y 4 : ℕ) = x 4) (h : o = 3 * p + v) :
    t x = tab x0 (y 1) (y 2) (y 3) (y 4) := by
  obtain ⟨i, k, rfl⟩ : ∃ (i : Fin 128) (k : Fin 256), x = ix5 0 0 0 i k :=
    ⟨x 3, x 4, by funext a; fin_cases a <;> first | exact Fin.ext (Nat.lt_one_iff.1 (x _).isLt) | rfl⟩
  have hp : (y 1 : ℕ) = p := hp
  have hv : (y 2 : ℕ) = v := hv
  have hi : (y 3 : ℕ) = i := hi
  have hk : (y 4 : ℕ) = k := hk
  have hb : o < 9 := by have := ho 1; simp at this; omega
  subst ht h
  rw [piece_apply, tab, hp, hv, dif_pos hb]
  refine congrArg x0 ?_
  funext a; fin_cases a
  · exact Fin.ext rfl
  · exact Fin.ext rfl
  · exact Fin.ext (by rw [hi, hk]; show 0 + 1 * (((k : ℕ) + 512 - i) % 512) = ((k : ℕ) + 512 - i) % 512; omega)

/-- A grid point writes the biases of its head. -/
theorem block (x0 : Vec Ideal S1x9x512 .f32) (y : S1x3x3x128x256.Idx) : out0_1 (F := Ideal) x0 y = tab x0 (y 1) (y 2) (y 3) (y 4) := by
  canon_tiles x h
  all_goals
    apply piece_of x0 y x
    case ht => rfl
    case hp => first | exact h1 | exact h1.trans (Nat.zero_add _).symm
    case hv => first | exact h2 | exact h2.trans (Nat.zero_add _).symm
    case hi => exact h3
    case hk => exact h4
    all_goals rfl

/-- The tile of head `h` at tile row `p`, tile column `v`: key `k` minus query `i`, around the vector. -/
def out (x : Vec Ideal S8x9x512 .f32) (h : Fin 8) (p v : Fin 3) (i : Fin 128) (k : Fin 256) : EReal :=
  x (ix3 h ⟨3 * p + v, by omega⟩ ⟨(k + 512 - i) % 512, by omega⟩)

variable (m : (ℓ : Loc nD τ sig) → Buf (Elt Ideal) ℓ)

theorem idx : ∀ t : Fin cfg0.N, win0_0.index t = ![t.val, 0, 0] ∧ win0_1.index t = ![t.val, 0, 0, 0, 0] :=
  (by decide +kernel : ∀ t : Fin grid0.N, _)

theorem lt8 (t : Fin cfg0.N) : t.val < 8 := lt_of_lt_of_eq t.isLt N_0

theorem tab_blk (c : Dev nD) (t : Fin cfg0.N) (p v : Fin 3) (i : Fin 128) (k : Fin 256) :
    tab (iblk m c 0 t) p v i k = out (m ((c : Thread nD τ).loc main_arg0)) ⟨t.val, lt8 t⟩ p v i k := by
  rw [tab, out, dif_pos (by omega)]
  blk_point [iblk, V, idx t]

/-- The array the kernel leaves. -/
theorem final (c : Dev nD) : (dats m 0 c).arrAt 1 cfg0.N
    = fun y : S8x3x3x128x256.Idx => out (m ((c : Thread nD τ).loc main_arg0)) (y 0) (y 1) (y 2) (y 3) (y 4) := by
  refine (dats m 0 c).arrAt_eq_of_covers 1 _ (by decide +kernel) fun t hf y => ?_
  blk_simp
  rw [after0_1, block]
  have y0 : (y 0 : ℕ) < 1 := (y 0).isLt
  refine (tab_blk m c t (y 1) (y 2) (y 3) (y 4)).trans ?_
  congr 1
  all_goals
    refine Fin.ext ?_
    blk_simp [idx t]

end Cert.Kernel6Ideal.DilBias
-- ==== Proof.DilBiasRef.lean ====
/-
The biases of the dilated attention as the reference leaves them, read at an index.
-/
module

public import proofs.«01_k».proof.Proof.Gen.Reference6Ideal.Run
public import proofs.«01_k».proof.Proof.DilBias

@[expose] public section

set_option maxRecDepth 16384

noncomputable section

namespace Cert.Reference6Ideal.DilBias

open Cert.Reference6Ideal.Gen Idealize.ShloMosaic Idealize.ShloMosaic.TcCoe Idealize.SL.Sem
open Cert.Kernel6Ideal.DilBias (out)

/-- The gather of the doubled vectors: query `i` and key `k` take the bias their table names. -/
theorem gather_vecs {α : Type} (x : S8x9x1024.Idx → α) (idx : IVec S128x256x1 32) (h : Fin 8) (n : Fin 9) (i : Fin 128) (k : Fin 256) :
    Host.gather gather_S8x9x1024_S128x256x1_S8x9x128x256_01_2_n_n_2_2_891 x idx (ix4 h n i k)
      = x (ix3 h n ⟨min (idx (ix3 i k 0)).toInt.toNat 1023, by omega⟩) := by
  have hs : gather_S8x9x1024_S128x256x1_S8x9x128x256_01_2_n_n_2_2_891.siIdx (ix4 h n i k) ⟨0, Nat.one_pos⟩ = ix3 i k 0 := by
    funext b; refine Fin.ext ?_
    match b with
    | ⟨0, _⟩ => rfl
    | ⟨1, _⟩ => rfl
    | ⟨2, _⟩ => rfl
  refine congrArg x ?_
  funext b
  refine Fin.ext ?_
  match b with
  | ⟨0, _⟩ => exact Nat.zero_add (h : ℕ)
  | ⟨1, _⟩ => exact Nat.zero_add (n : ℕ)
  | ⟨2, _⟩ => exact congrArg (fun i => min (idx i).toInt.toNat 1023) hs

/-- Key minus query plus 512, as the program computes it. -/
def diff : IVec S128x256 32 :=
  addi (subi (broadcastInDim S128x256 ![0, 1] bcast_S1x256_S128x256_0_1 (broadcastInDim S1x256 ![1] bcast_S256_S1x256_1 (iotaInDim S256 32 0))) (broadcastInDim S128x256 ![0, 1] bcast_S128x1_S128x256_0_1 (broadcastInDim S128x1 ![0] bcast_S128_S128x1_0 (iotaInDim S128 32 0)))) (broadcastInDim S128x256 ![] bcast_S_S128x256 (constantI S_ 32 512#32))

/-- The table of positions. -/
def tabDiff : IVec S128x256x1 32 :=
  broadcastInDim S128x256x1 ![0, 1] bcast_S128x256_S128x256x1_0_1 (select (cmpi .slt diff (broadcastInDim S128x256 ![] bcast_S_S128x256 (constantI S_ 32 0#32))) (addi diff (broadcastInDim S128x256 ![] bcast_S_S128x256 (constantI S_ 32 1024#32))) diff)

theorem diff_eq : ∀ (i : Fin 128) (k : Fin 256), min (tabDiff (ix3 i k 0)).toInt.toNat 1023 = (k : ℕ) + 512 - i := by decide +kernel

/-- A vector twice in a row, read around it. -/
theorem twice (x : Vec Ideal S8x9x512 .f32) (h : Fin 8) (n : Fin 9) (a : Fin 1024) :
    concatenate S8x9x1024 2 [⟨S8x9x512, x⟩, ⟨S8x9x512, x⟩] concatenates_S8x9x512_S8x9x512_S8x9x1024_d2 (ix3 h n a)
      = x (ix3 h n ⟨a % 512, by omega⟩) := by
  pointwise
  split
  · exact congrArg x (congrArg (ix3 h n) (Fin.ext (by dsimp only; omega)))
  · exact congrArg x (congrArg (ix3 h n) (Fin.ext (by dsimp only; omega)))

/-- The reference's tiles before the nine of a head are brought in a square. -/
def val (x : Vec Ideal S8x9x512 .f32) : FVec Ideal S8x9x128x256 .f32 :=
  Host.gather gather_S8x9x1024_S128x256x1_S8x9x128x256_01_2_n_n_2_2_891 (concatenate S8x9x1024 2 [⟨S8x9x512, x⟩, ⟨S8x9x512, x⟩] concatenates_S8x9x512_S8x9x512_S8x9x1024_d2) tabDiff

/-- The reference's tiles. -/
def res (x : Vec Ideal S8x9x512 .f32) : FVec Ideal S8x3x3x128x256 .f32 :=
  shapeCast _ (val x) shapeCasts_S8x9x128x256_S8x3x3x128x256

/-- The reference's result is the tiles. -/
theorem res_eq (x : Vec Ideal S8x9x512 .f32) : res x = fun y => out x (y 0) (y 1) (y 2) (y 3) (y 4) := by
  funext y
  obtain ⟨h, p, v, i, k, rfl⟩ : ∃ (h : Fin 8) (p v : Fin 3) (i : Fin 128) (k : Fin 256), y = ix5 h p v i k :=
    ⟨y 0, y 1, y 2, y 3, y 4, by funext a; fin_cases a <;> rfl⟩
  refine (shapeCast_apply _ shapeCasts_S8x9x128x256_S8x3x3x128x256 _ (ix4 h ⟨3 * p + v, by omega⟩ i k) ?_).trans ?_
  · rw [Shape.rowMajor_val_four, Shape.rowMajor_val_five]
    show (((h : ℕ) * 9 + (3 * p + v)) * 128 + i) * 256 + (k : ℕ) = ((((h : ℕ) * 3 + p) * 3 + v) * 128 + i) * 256 + k
    omega
  · rw [val, gather_vecs, twice]
    exact congrArg (fun a => x (ix3 h _ a)) (Fin.ext (congrArg (· % 512) (diff_eq i k)))

end Cert.Reference6Ideal.DilBias
-- ==== Proof.Values.lean ====
/-
Kernel and reference end with equal results.
-/
module

public import proofs.«01_k».proof.Defs
public import proofs.«01_k».proof.Proof.InProj
public import proofs.«01_k».proof.Proof.OutProj
public import proofs.«01_k».proof.Proof.OutProj0
public import proofs.«01_k».proof.Proof.NaRef
public import proofs.«01_k».proof.Proof.BiasRef
public import proofs.«01_k».proof.Proof.DilBiasRef
public import proofs.«01_k».proof.Proof.Gen.KernelIdeal.Value
public import proofs.«01_k».proof.Proof.Gen.Kernel2Ideal.Value
public import proofs.«01_k».proof.Proof.Gen.Kernel5Ideal.Value
public import proofs.«01_k».proof.Proof.Gen.Kernel6Ideal.Value
public import Idealize.ShloMosaic.Adequacy
public import Idealize.ShloMosaic.Init

@[expose] public section

open Idealize.ShloMosaic Idealize.SL.Sem

namespace Cert.Proof

theorem algebraic_1 : Cert.algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := hagree c
  rw [Cert.ReferenceIdeal.NA.res_eq, h0, h1]
  exact (Cert.KernelIdeal.NA.final m c).symm

theorem algebraic_2 : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  refine (Cert.Reference2Ideal.Bias.res_eq _).trans ?_
  rw [hagree c]
  exact (Cert.Kernel2Ideal.Bias.final m c).symm

theorem algebraic_3 : Cert.algebraic_Kernel3Ideal_Reference3Ideal := by
  intro m ρ m' ρ' _ hagree
  refine ⟨_, _, Cert.Kernel3Ideal.Value.run_blocks (F := Ideal) m ρ, ?_⟩
  refine (θ_run Cert.Reference3Ideal.defs _ _).mono (fun _ h c => ⟨(h c).1.trans ?_, (h c).2.1.trans ?_, (h c).2.2⟩)
    (Cert.Reference3Ideal.run m' ρ')
  · rw [(hagree c).1, (hagree c).2.1, (hagree c).2.2]
    exact (Cert.Kernel3Ideal.InProj.final3 m c).symm
  · rw [(hagree c).1, (hagree c).2.1, (hagree c).2.2]
    exact (Cert.Kernel3Ideal.InProj.final4 m c).symm

theorem algebraic_4 : Cert.algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  obtain ⟨h0, h1, h2, h3, h4, h5, h6, h7, h8⟩ := hagree c
  rw [Cert.Reference4Ideal.res_eq, h0, h1, h2, h3, h4, h5, h6, h7, h8]
  exact (Cert.Kernel4Ideal.OutProj.final m c).symm

theorem algebraic_5 : Cert.algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨(h c).1.trans ?_, (h c).2⟩)
    (Cert.Reference5Ideal.Value.run (F := Ideal) m' ρ')
  obtain ⟨h0, h1, h2, h3, h4, h5, h6, h7, _⟩ := hagree c
  rw [Cert.Reference5Ideal.res_eq, h0, h1, h2, h3, h4, h5, h6, h7]
  exact (Cert.Kernel5Ideal.OutProj.final m c).symm

theorem algebraic_6 : Cert.algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨(h c).1.trans ?_, (h c).2⟩)
    (Cert.Reference6Ideal.Value.run (F := Ideal) m' ρ')
  refine (Cert.Reference6Ideal.DilBias.res_eq _).trans ?_
  rw [hagree c]
  exact (Cert.Kernel6Ideal.DilBias.final m c).symm

end Cert.Proof
-- ==== Proof.lean ====
/-
The certificate: every claim of `Defs.lean`, put together.
-/
module

public import proofs.«01_k».proof.Defs
public import proofs.«01_k».proof.Proof.Frames
public import proofs.«01_k».proof.Proof.Values
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel6
public import proofs.«01_k».proof.Proof.Gen.Kernel5Ideal
public import proofs.«01_k».proof.Proof.Gen.Kernel6Ideal
public import proofs.«01_k».proof.Proof.Gen.Reference5Ideal
public import proofs.«01_k».proof.Proof.Gen.Reference6Ideal

@[expose] public section

namespace Cert.Proof

theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   frame_Kernel, frame_KernelIdeal, frame_ReferenceIdeal,
   frame_Kernel2, frame_Kernel2Ideal, frame_Reference2Ideal,
   frame_Kernel3, frame_Kernel3Ideal, frame_Reference3Ideal,
   frame_Kernel4, frame_Kernel4Ideal, frame_Reference4Ideal,
   frame_Kernel5, frame_Kernel5Ideal, frame_Reference5Ideal,
   frame_Kernel6, frame_Kernel6Ideal, frame_Reference6Ideal,
   preserves_Kernel, algebraic_1, preserves_Kernel2, algebraic_2, trivial, algebraic_3, trivial, algebraic_4, trivial, algebraic_5, trivial, algebraic_6⟩

end Cert.Proof
